-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![768, 1536]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![384, 768]⟩ ⟨2, ![1536, 768]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S768x768 : Shape := ⟨2, ![768, 768]⟩
abbrev S2x384x384 : Shape := ⟨3, ![2, 384, 384]⟩
abbrev S2x192x384 : Shape := ⟨3, ![2, 192, 384]⟩
abbrev S2x4x3 : Shape := ⟨3, ![2, 4, 3]⟩
abbrev S_ : Shape := ⟨0, ![]⟩
abbrev S384x128 : Shape := ⟨2, ![384, 128]⟩
abbrev S768x128 : Shape := ⟨2, ![768, 128]⟩
abbrev S1x1x1 : Shape := ⟨3, ![1, 1, 1]⟩
abbrev S1x384x128 : Shape := ⟨3, ![1, 384, 128]⟩
abbrev S1x192x128 : Shape := ⟨3, ![1, 192, 128]⟩
abbrev S192x128 : Shape := ⟨2, ![192, 128]⟩

abbrev nBuf : Space → Nat
  | .hbm => 3
  | .vmem => 6
  | .smem => 0
  | _ => 0

abbrev bufTy : (tb : Table) → Fin (tcTables nBuf tb) → BufTy
  | .hbm, ⟨0, _⟩ => ⟨S768x384, .bf16⟩
  | .hbm, ⟨1, _⟩ => ⟨S384x768, .bf16⟩
  | .hbm, ⟨2, _⟩ => ⟨S768x768, .bf16⟩
  | .local _ .vmem, ⟨0, _⟩ => ⟨S768x384, .bf16⟩
  | .local _ .vmem, ⟨1, _⟩ => ⟨S384x768, .bf16⟩
  | .local _ .vmem, ⟨2, _⟩ => ⟨S768x768, .bf16⟩
  | .local _ .vmem, ⟨3, _⟩ => ⟨S768x768, .bf16⟩
  | .local _ .vmem, ⟨4, _⟩ => ⟨S2x384x384, .bf16⟩
  | .local _ .vmem, ⟨5, _⟩ => ⟨S2x192x384, .bf16⟩
  | _, _ => ⟨S768x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v13 : BitVec 32 := Scalar.xori v2 c1_i32_7
  let c1_i32_10 : BitVec 32 := 1#32
  let v15 : BitVec 32 := Scalar.muli v13 c1_i32_10
  let v16 : BitVec 32 := Scalar.addi c0_i32 v15
  v16.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_8 : BitVec 32 := 3#32
  let v14 : BitVec 32 := Scalar.xori v2 c3_i32_8
  let c1_i32_12 : BitVec 32 := 1#32
  let v17 : BitVec 32 := Scalar.muli v14 c1_i32_12
  let v18 : BitVec 32 := Scalar.addi c0_i32_13 v17
  v18.toNat
def k0_off1 (d0 : Dev nD) : Fin 2 → Nat :=
  let c1_i32_19 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let v28 : BitVec 32 := Scalar.subi c1_i32_19 v7
  let c384_i32 : BitVec 32 := 384#32
  let v29 : BitVec 32 := Scalar.muli v28 c384_i32
  let c0_i32_31 : BitVec 32 := 0#32
  ![v29.toNat, 0]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v8 : BitVec 32 := Scalar.xori v2 c1_i32_4
  let c1_i32_27 : BitVec 32 := 1#32
  let v30 : BitVec 32 := Scalar.muli v8 c1_i32_27
  let v31 : BitVec 32 := Scalar.addi c0_i32_28 v30
  v31.toNat
def k0_off2 (d0 : Dev nD) : Fin 2 → Nat :=
  let c1_i32_36 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let v46 : BitVec 32 := Scalar.subi c1_i32_36 v4
  let c384_i32_37 : BitVec 32 := 384#32
  let v47 : BitVec 32 := Scalar.muli v46 c384_i32_37
  let c384_i32_49 : BitVec 32 := 384#32
  ![v47.toNat, 384]
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_5 : BitVec 32 := 3#32
  let v10 : BitVec 32 := Scalar.xori v2 c3_i32_5
  let c1_i32_45 : BitVec 32 := 1#32
  let v48 : BitVec 32 := Scalar.muli v10 c1_i32_45
  let v49 : BitVec 32 := Scalar.addi c0_i32_46 v48
  v49.toNat
def k0_off3 (d0 : Dev nD) : Fin 2 → Nat :=
  let c1_i32_54 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let v64 : BitVec 32 := Scalar.subi c1_i32_54 v7
  let c384_i32_55 : BitVec 32 := 384#32
  let v65 : BitVec 32 := Scalar.muli v64 c384_i32_55
  let c128_i32_66 : BitVec 32 := 128#32
  ![v65.toNat, 128]
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v8 : BitVec 32 := Scalar.xori v2 c1_i32_4
  let c1_i32_63 : BitVec 32 := 1#32
  let v66 : BitVec 32 := Scalar.muli v8 c1_i32_63
  let v67 : BitVec 32 := Scalar.addi c0_i32_64 v66
  v67.toNat
def k0_off4 (d0 : Dev nD) : Fin 2 → Nat :=
  let c1_i32_71 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let v82 : BitVec 32 := Scalar.subi c1_i32_71 v4
  let c384_i32_72 : BitVec 32 := 384#32
  let v83 : BitVec 32 := Scalar.muli v82 c384_i32_72
  let c512_i32 : BitVec 32 := 512#32
  ![v83.toNat, 512]
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_5 : BitVec 32 := 3#32
  let v10 : BitVec 32 := Scalar.xori v2 c3_i32_5
  let c1_i32_80 : BitVec 32 := 1#32
  let v84 : BitVec 32 := Scalar.muli v10 c1_i32_80
  let v85 : BitVec 32 := Scalar.addi c0_i32_81 v84
  v85.toNat
def k0_off5 (d0 : Dev nD) : Fin 2 → Nat :=
  let c1_i32_88 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let v100 : BitVec 32 := Scalar.subi c1_i32_88 v7
  let c384_i32_89 : BitVec 32 := 384#32
  let v101 : BitVec 32 := Scalar.muli v100 c384_i32_89
  let c256_i32_100 : BitVec 32 := 256#32
  ![v101.toNat, 256]
def k0_dev7 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v8 : BitVec 32 := Scalar.xori v2 c1_i32_4
  let c1_i32_97 : BitVec 32 := 1#32
  let v102 : BitVec 32 := Scalar.muli v8 c1_i32_97
  let v103 : BitVec 32 := Scalar.addi c0_i32_98 v102
  v103.toNat
def k0_off6 (d0 : Dev nD) : Fin 2 → Nat :=
  let c1_i32_105 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let v118 : BitVec 32 := Scalar.subi c1_i32_105 v4
  let c384_i32_106 : BitVec 32 := 384#32
  let v119 : BitVec 32 := Scalar.muli v118 c384_i32_106
  let c640_i32 : BitVec 32 := 640#32
  ![v119.toNat, 640]
def k0_dev8 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_5 : BitVec 32 := 3#32
  let v10 : BitVec 32 := Scalar.xori v2 c3_i32_5
  let c1_i32_114 : BitVec 32 := 1#32
  let v120 : BitVec 32 := Scalar.muli v10 c1_i32_114
  let v121 : BitVec 32 := Scalar.addi c0_i32_115 v120
  v121.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c384_i32_130 : BitVec 32 := 384#32
  let v136 : BitVec 32 := Scalar.muli v7 c384_i32_130
  let v137 : Index := Scalar.indexCast v136
  let c0_131 : Index := 0#32
  ![v137.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c384_i32_136 : BitVec 32 := 384#32
  let v146 : BitVec 32 := Scalar.muli v7 c384_i32_136
  let c1_i32_137 : BitVec 32 := 1#32
  let c1_i32_0 : BitVec 32 := 1#32
  let v3 : BitVec 32 := Scalar.shrsi v2 c1_i32_0
  let c1_i32_1 : BitVec 32 := 1#32
  let v4 : BitVec 32 := Scalar.andi v3 c1_i32_1
  let v147 : BitVec 32 := Scalar.subi c1_i32_137 v4
  let c192_i32 : BitVec 32 := 192#32
  let v148 : BitVec 32 := Scalar.muli v147 c192_i32
  let v149 : BitVec 32 := Scalar.addi v146 v148
  let c0_i32_149 : BitVec 32 := 0#32
  ![v149.toNat, 0]
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v9 : BitVec 32 := Scalar.xori v2 c3_i32
  let c1_i32_145 : BitVec 32 := 1#32
  let v150 : BitVec 32 := Scalar.muli v9 c1_i32_145
  let v151 : BitVec 32 := Scalar.addi c0_i32_146 v150
  v151.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let c384_i32_162 : BitVec 32 := 384#32
  let v166 : BitVec 32 := Scalar.muli v4 c384_i32_162
  let v167 : Index := Scalar.indexCast v166
  let c384_163 : Index := 384#32
  ![v167.toNat, 384]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let c384_i32_167 : BitVec 32 := 384#32
  let v176 : BitVec 32 := Scalar.muli v4 c384_i32_167
  let c1_i32_168 : BitVec 32 := 1#32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let v177 : BitVec 32 := Scalar.subi c1_i32_168 v7
  let c192_i32_169 : BitVec 32 := 192#32
  let v178 : BitVec 32 := Scalar.muli v177 c192_i32_169
  let v179 : BitVec 32 := Scalar.addi v176 v178
  let c384_i32_181 : BitVec 32 := 384#32
  ![v179.toNat, 384]
def k0_dev10 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v11 : BitVec 32 := Scalar.xori v2 c1_i32_6
  let c1_i32_177 : BitVec 32 := 1#32
  let v180 : BitVec 32 := Scalar.muli v11 c1_i32_177
  let v181 : BitVec 32 := Scalar.addi c0_i32_178 v180
  v181.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c384_i32_194 : BitVec 32 := 384#32
  let v196 : BitVec 32 := Scalar.muli v7 c384_i32_194
  let v197 : Index := Scalar.indexCast v196
  let c128_195 : Index := 128#32
  ![v197.toNat, 128]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c384_i32_200 : BitVec 32 := 384#32
  let v206 : BitVec 32 := Scalar.muli v7 c384_i32_200
  let c1_i32_201 : BitVec 32 := 1#32
  let c1_i32_0 : BitVec 32 := 1#32
  let v3 : BitVec 32 := Scalar.shrsi v2 c1_i32_0
  let c1_i32_1 : BitVec 32 := 1#32
  let v4 : BitVec 32 := Scalar.andi v3 c1_i32_1
  let v207 : BitVec 32 := Scalar.subi c1_i32_201 v4
  let c192_i32_202 : BitVec 32 := 192#32
  let v208 : BitVec 32 := Scalar.muli v207 c192_i32_202
  let v209 : BitVec 32 := Scalar.addi v206 v208
  let c128_i32_214 : BitVec 32 := 128#32
  ![v209.toNat, 128]
def k0_dev11 (d0 : Dev nD) : Nat :=
  let c0_i32_211 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v9 : BitVec 32 := Scalar.xori v2 c3_i32
  let c1_i32_210 : BitVec 32 := 1#32
  let v210 : BitVec 32 := Scalar.muli v9 c1_i32_210
  let v211 : BitVec 32 := Scalar.addi c0_i32_211 v210
  v211.toNat
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let c384_i32_227 : BitVec 32 := 384#32
  let v226 : BitVec 32 := Scalar.muli v4 c384_i32_227
  let v227 : Index := Scalar.indexCast v226
  let c512_228 : Index := 512#32
  ![v227.toNat, 512]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let c384_i32_233 : BitVec 32 := 384#32
  let v236 : BitVec 32 := Scalar.muli v4 c384_i32_233
  let c1_i32_234 : BitVec 32 := 1#32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let v237 : BitVec 32 := Scalar.subi c1_i32_234 v7
  let c192_i32_235 : BitVec 32 := 192#32
  let v238 : BitVec 32 := Scalar.muli v237 c192_i32_235
  let v239 : BitVec 32 := Scalar.addi v236 v238
  let c512_i32_247 : BitVec 32 := 512#32
  ![v239.toNat, 512]
def k0_dev12 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v11 : BitVec 32 := Scalar.xori v2 c1_i32_6
  let c1_i32_243 : BitVec 32 := 1#32
  let v240 : BitVec 32 := Scalar.muli v11 c1_i32_243
  let v241 : BitVec 32 := Scalar.addi c0_i32_244 v240
  v241.toNat
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c384_i32_260 : BitVec 32 := 384#32
  let v256 : BitVec 32 := Scalar.muli v7 c384_i32_260
  let v257 : Index := Scalar.indexCast v256
  let c256_261 : Index := 256#32
  ![v257.toNat, 256]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c384_i32_266 : BitVec 32 := 384#32
  let v266 : BitVec 32 := Scalar.muli v7 c384_i32_266
  let c1_i32_267 : BitVec 32 := 1#32
  let c1_i32_0 : BitVec 32 := 1#32
  let v3 : BitVec 32 := Scalar.shrsi v2 c1_i32_0
  let c1_i32_1 : BitVec 32 := 1#32
  let v4 : BitVec 32 := Scalar.andi v3 c1_i32_1
  let v267 : BitVec 32 := Scalar.subi c1_i32_267 v4
  let c192_i32_268 : BitVec 32 := 192#32
  let v268 : BitVec 32 := Scalar.muli v267 c192_i32_268
  let v269 : BitVec 32 := Scalar.addi v266 v268
  let c256_i32_280 : BitVec 32 := 256#32
  ![v269.toNat, 256]
def k0_dev13 (d0 : Dev nD) : Nat :=
  let c0_i32_277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v9 : BitVec 32 := Scalar.xori v2 c3_i32
  let c1_i32_276 : BitVec 32 := 1#32
  let v270 : BitVec 32 := Scalar.muli v9 c1_i32_276
  let v271 : BitVec 32 := Scalar.addi c0_i32_277 v270
  v271.toNat
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let c384_i32_293 : BitVec 32 := 384#32
  let v286 : BitVec 32 := Scalar.muli v4 c384_i32_293
  let v287 : Index := Scalar.indexCast v286
  let c640_294 : Index := 640#32
  ![v287.toNat, 640]
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let c384_i32_299 : BitVec 32 := 384#32
  let v296 : BitVec 32 := Scalar.muli v4 c384_i32_299
  let c1_i32_300 : BitVec 32 := 1#32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let v297 : BitVec 32 := Scalar.subi c1_i32_300 v7
  let c192_i32_301 : BitVec 32 := 192#32
  let v298 : BitVec 32 := Scalar.muli v297 c192_i32_301
  let v299 : BitVec 32 := Scalar.addi v296 v298
  let c640_i32_313 : BitVec 32 := 640#32
  ![v299.toNat, 640]
def k0_dev14 (d0 : Dev nD) : Nat :=
  let c0_i32_310 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v11 : BitVec 32 := Scalar.xori v2 c1_i32_6
  let c1_i32_309 : BitVec 32 := 1#32
  let v300 : BitVec 32 := Scalar.muli v11 c1_i32_309
  let v301 : BitVec 32 := Scalar.addi c0_i32_310 v300
  v301.toNat
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c384_i32_326 : BitVec 32 := 384#32
  let v316 : BitVec 32 := Scalar.muli v7 c384_i32_326
  let c1_i32_0 : BitVec 32 := 1#32
  let v3 : BitVec 32 := Scalar.shrsi v2 c1_i32_0
  let c1_i32_1 : BitVec 32 := 1#32
  let v4 : BitVec 32 := Scalar.andi v3 c1_i32_1
  let c192_i32_327 : BitVec 32 := 192#32
  let v317 : BitVec 32 := Scalar.muli v4 c192_i32_327
  let v318 : BitVec 32 := Scalar.addi v316 v317
  let v319 : Index := Scalar.indexCast v318
  let c0_328 : Index := 0#32
  ![v319.toNat, 0]
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c384_i32_326 : BitVec 32 := 384#32
  let v316 : BitVec 32 := Scalar.muli v7 c384_i32_326
  let c1_i32_0 : BitVec 32 := 1#32
  let v3 : BitVec 32 := Scalar.shrsi v2 c1_i32_0
  let c1_i32_1 : BitVec 32 := 1#32
  let v4 : BitVec 32 := Scalar.andi v3 c1_i32_1
  let c192_i32_327 : BitVec 32 := 192#32
  let v317 : BitVec 32 := Scalar.muli v4 c192_i32_327
  let v318 : BitVec 32 := Scalar.addi v316 v317
  let c0_i32_341 : BitVec 32 := 0#32
  ![v318.toNat, 0]
def k0_dev15 (d0 : Dev nD) : Nat :=
  let c0_i32_340 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v9 : BitVec 32 := Scalar.xori v2 c3_i32
  let c1_i32_339 : BitVec 32 := 1#32
  let v326 : BitVec 32 := Scalar.muli v9 c1_i32_339
  let v327 : BitVec 32 := Scalar.addi c0_i32_340 v326
  v327.toNat
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let c384_i32_355 : BitVec 32 := 384#32
  let v341 : BitVec 32 := Scalar.muli v4 c384_i32_355
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c192_i32_356 : BitVec 32 := 192#32
  let v342 : BitVec 32 := Scalar.muli v7 c192_i32_356
  let v343 : BitVec 32 := Scalar.addi v341 v342
  let v344 : Index := Scalar.indexCast v343
  let c384_357 : Index := 384#32
  ![v344.toNat, 384]
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let c384_i32_355 : BitVec 32 := 384#32
  let v341 : BitVec 32 := Scalar.muli v4 c384_i32_355
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c192_i32_356 : BitVec 32 := 192#32
  let v342 : BitVec 32 := Scalar.muli v7 c192_i32_356
  let v343 : BitVec 32 := Scalar.addi v341 v342
  let c384_i32_370 : BitVec 32 := 384#32
  ![v343.toNat, 384]
def k0_dev16 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v11 : BitVec 32 := Scalar.xori v2 c1_i32_6
  let c1_i32_368 : BitVec 32 := 1#32
  let v351 : BitVec 32 := Scalar.muli v11 c1_i32_368
  let v352 : BitVec 32 := Scalar.addi c0_i32_369 v351
  v352.toNat
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c384_i32_384 : BitVec 32 := 384#32
  let v366 : BitVec 32 := Scalar.muli v7 c384_i32_384
  let c1_i32_0 : BitVec 32 := 1#32
  let v3 : BitVec 32 := Scalar.shrsi v2 c1_i32_0
  let c1_i32_1 : BitVec 32 := 1#32
  let v4 : BitVec 32 := Scalar.andi v3 c1_i32_1
  let c192_i32_385 : BitVec 32 := 192#32
  let v367 : BitVec 32 := Scalar.muli v4 c192_i32_385
  let v368 : BitVec 32 := Scalar.addi v366 v367
  let v369 : Index := Scalar.indexCast v368
  let c128_386 : Index := 128#32
  ![v369.toNat, 128]
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c384_i32_384 : BitVec 32 := 384#32
  let v366 : BitVec 32 := Scalar.muli v7 c384_i32_384
  let c1_i32_0 : BitVec 32 := 1#32
  let v3 : BitVec 32 := Scalar.shrsi v2 c1_i32_0
  let c1_i32_1 : BitVec 32 := 1#32
  let v4 : BitVec 32 := Scalar.andi v3 c1_i32_1
  let c192_i32_385 : BitVec 32 := 192#32
  let v367 : BitVec 32 := Scalar.muli v4 c192_i32_385
  let v368 : BitVec 32 := Scalar.addi v366 v367
  let c128_i32_399 : BitVec 32 := 128#32
  ![v368.toNat, 128]
def k0_dev17 (d0 : Dev nD) : Nat :=
  let c0_i32_398 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v9 : BitVec 32 := Scalar.xori v2 c3_i32
  let c1_i32_397 : BitVec 32 := 1#32
  let v376 : BitVec 32 := Scalar.muli v9 c1_i32_397
  let v377 : BitVec 32 := Scalar.addi c0_i32_398 v376
  v377.toNat
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let c384_i32_413 : BitVec 32 := 384#32
  let v391 : BitVec 32 := Scalar.muli v4 c384_i32_413
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c192_i32_414 : BitVec 32 := 192#32
  let v392 : BitVec 32 := Scalar.muli v7 c192_i32_414
  let v393 : BitVec 32 := Scalar.addi v391 v392
  let v394 : Index := Scalar.indexCast v393
  let c512_415 : Index := 512#32
  ![v394.toNat, 512]
def k0_off26 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let c384_i32_413 : BitVec 32 := 384#32
  let v391 : BitVec 32 := Scalar.muli v4 c384_i32_413
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c192_i32_414 : BitVec 32 := 192#32
  let v392 : BitVec 32 := Scalar.muli v7 c192_i32_414
  let v393 : BitVec 32 := Scalar.addi v391 v392
  let c512_i32_428 : BitVec 32 := 512#32
  ![v393.toNat, 512]
def k0_dev18 (d0 : Dev nD) : Nat :=
  let c0_i32_427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v11 : BitVec 32 := Scalar.xori v2 c1_i32_6
  let c1_i32_426 : BitVec 32 := 1#32
  let v401 : BitVec 32 := Scalar.muli v11 c1_i32_426
  let v402 : BitVec 32 := Scalar.addi c0_i32_427 v401
  v402.toNat
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c384_i32_442 : BitVec 32 := 384#32
  let v416 : BitVec 32 := Scalar.muli v7 c384_i32_442
  let c1_i32_0 : BitVec 32 := 1#32
  let v3 : BitVec 32 := Scalar.shrsi v2 c1_i32_0
  let c1_i32_1 : BitVec 32 := 1#32
  let v4 : BitVec 32 := Scalar.andi v3 c1_i32_1
  let c192_i32_443 : BitVec 32 := 192#32
  let v417 : BitVec 32 := Scalar.muli v4 c192_i32_443
  let v418 : BitVec 32 := Scalar.addi v416 v417
  let v419 : Index := Scalar.indexCast v418
  let c256_444 : Index := 256#32
  ![v419.toNat, 256]
def k0_off28 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c384_i32_442 : BitVec 32 := 384#32
  let v416 : BitVec 32 := Scalar.muli v7 c384_i32_442
  let c1_i32_0 : BitVec 32 := 1#32
  let v3 : BitVec 32 := Scalar.shrsi v2 c1_i32_0
  let c1_i32_1 : BitVec 32 := 1#32
  let v4 : BitVec 32 := Scalar.andi v3 c1_i32_1
  let c192_i32_443 : BitVec 32 := 192#32
  let v417 : BitVec 32 := Scalar.muli v4 c192_i32_443
  let v418 : BitVec 32 := Scalar.addi v416 v417
  let c256_i32_457 : BitVec 32 := 256#32
  ![v418.toNat, 256]
def k0_dev19 (d0 : Dev nD) : Nat :=
  let c0_i32_456 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v9 : BitVec 32 := Scalar.xori v2 c3_i32
  let c1_i32_455 : BitVec 32 := 1#32
  let v426 : BitVec 32 := Scalar.muli v9 c1_i32_455
  let v427 : BitVec 32 := Scalar.addi c0_i32_456 v426
  v427.toNat
def k0_off29 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let c384_i32_471 : BitVec 32 := 384#32
  let v441 : BitVec 32 := Scalar.muli v4 c384_i32_471
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c192_i32_472 : BitVec 32 := 192#32
  let v442 : BitVec 32 := Scalar.muli v7 c192_i32_472
  let v443 : BitVec 32 := Scalar.addi v441 v442
  let v444 : Index := Scalar.indexCast v443
  let c640_473 : Index := 640#32
  ![v444.toNat, 640]
def k0_off30 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let c384_i32_471 : BitVec 32 := 384#32
  let v441 : BitVec 32 := Scalar.muli v4 c384_i32_471
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c192_i32_472 : BitVec 32 := 192#32
  let v442 : BitVec 32 := Scalar.muli v7 c192_i32_472
  let v443 : BitVec 32 := Scalar.addi v441 v442
  let c640_i32_486 : BitVec 32 := 640#32
  ![v443.toNat, 640]
def k0_dev20 (d0 : Dev nD) : Nat :=
  let c0_i32_485 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v11 : BitVec 32 := Scalar.xori v2 c1_i32_6
  let c1_i32_484 : BitVec 32 := 1#32
  let v451 : BitVec 32 := Scalar.muli v11 c1_i32_484
  let v452 : BitVec 32 := Scalar.addi c0_i32_485 v451
  v452.toNat
def k0_off31 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c384_i32_501 : BitVec 32 := 384#32
  let v469 : BitVec 32 := Scalar.muli v7 c384_i32_501
  let c0_i32_510 : BitVec 32 := 0#32
  ![v469.toNat, 0]
def k0_dev21 (d0 : Dev nD) : Nat :=
  let c0_i32_509 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v8 : BitVec 32 := Scalar.xori v2 c1_i32_4
  let c1_i32_508 : BitVec 32 := 1#32
  let v470 : BitVec 32 := Scalar.muli v8 c1_i32_508
  let v471 : BitVec 32 := Scalar.addi c0_i32_509 v470
  v471.toNat
def k0_off32 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let c384_i32_525 : BitVec 32 := 384#32
  let v488 : BitVec 32 := Scalar.muli v4 c384_i32_525
  let c384_i32_534 : BitVec 32 := 384#32
  ![v488.toNat, 384]
def k0_dev22 (d0 : Dev nD) : Nat :=
  let c0_i32_533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_5 : BitVec 32 := 3#32
  let v10 : BitVec 32 := Scalar.xori v2 c3_i32_5
  let c1_i32_532 : BitVec 32 := 1#32
  let v489 : BitVec 32 := Scalar.muli v10 c1_i32_532
  let v490 : BitVec 32 := Scalar.addi c0_i32_533 v489
  v490.toNat
def k0_off33 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c384_i32_549 : BitVec 32 := 384#32
  let v507 : BitVec 32 := Scalar.muli v7 c384_i32_549
  let c128_i32_558 : BitVec 32 := 128#32
  ![v507.toNat, 128]
def k0_dev23 (d0 : Dev nD) : Nat :=
  let c0_i32_557 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v8 : BitVec 32 := Scalar.xori v2 c1_i32_4
  let c1_i32_556 : BitVec 32 := 1#32
  let v508 : BitVec 32 := Scalar.muli v8 c1_i32_556
  let v509 : BitVec 32 := Scalar.addi c0_i32_557 v508
  v509.toNat
def k0_off34 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let c384_i32_573 : BitVec 32 := 384#32
  let v526 : BitVec 32 := Scalar.muli v4 c384_i32_573
  let c512_i32_582 : BitVec 32 := 512#32
  ![v526.toNat, 512]
def k0_dev24 (d0 : Dev nD) : Nat :=
  let c0_i32_581 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_5 : BitVec 32 := 3#32
  let v10 : BitVec 32 := Scalar.xori v2 c3_i32_5
  let c1_i32_580 : BitVec 32 := 1#32
  let v527 : BitVec 32 := Scalar.muli v10 c1_i32_580
  let v528 : BitVec 32 := Scalar.addi c0_i32_581 v527
  v528.toNat
def k0_off35 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.shrsi v2 c1_i32_2
  let v6 : BitVec 32 := Scalar.xori v2 v5
  let c1_i32_3 : BitVec 32 := 1#32
  let v7 : BitVec 32 := Scalar.andi v6 c1_i32_3
  let c384_i32_597 : BitVec 32 := 384#32
  let v545 : BitVec 32 := Scalar.muli v7 c384_i32_597
  let c256_i32_606 : BitVec 32 := 256#32
  ![v545.toNat, 256]
def k0_dev25 (d0 : Dev nD) : Nat :=
  let c0_i32_605 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v8 : BitVec 32 := Scalar.xori v2 c1_i32_4
  let c1_i32_604 : BitVec 32 := 1#32
  let v546 : BitVec 32 := Scalar.muli v8 c1_i32_604
  let v547 : BitVec 32 := Scalar.addi c0_i32_605 v546
  v547.toNat
def k0_off36 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrsi v2 c1_i32_0
  let c1_i32_1 : BitVec 32 := 1#32
  let v4 : BitVec 32 := Scalar.andi v3 c1_i32_1
  let c384_i32_621 : BitVec 32 := 384#32
  let v564 : BitVec 32 := Scalar.muli v4 c384_i32_621
  let c640_i32_630 : BitVec 32 := 640#32
  ![v564.toNat, 640]
def k0_dev26 (d0 : Dev nD) : Nat :=
  let c0_i32_629 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_5 : BitVec 32 := 3#32
  let v10 : BitVec 32 := Scalar.xori v2 c3_i32_5
  let c1_i32_628 : BitVec 32 := 1#32
  let v565 : BitVec 32 := Scalar.muli v10 c1_i32_628
  let v566 : BitVec 32 := Scalar.addi c0_i32_629 v565
  v566.toNat
abbrev stage0_0 : Fin 1 → Memref sig .tc .vmem S768x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x1536 : Shape := ⟨2, ![768, 1536]⟩
abbrev S1536x768 : Shape := ⟨2, ![1536, 768]⟩
abbrev S768x768 : Shape := ⟨2, ![768, 768]⟩

abbrev nBuf : Space → Nat
  | .hbm => 4
  | .vmem => 0
  | .smem => 0
  | _ => 0

abbrev bufTy : (tb : Table) → Fin (tcTables nBuf tb) → BufTy
  | .hbm, ⟨0, _⟩ => ⟨S768x1536, .bf16⟩
  | .hbm, ⟨1, _⟩ => ⟨S1536x768, .bf16⟩
  | .hbm, ⟨2, _⟩ => ⟨S768x768, .f32⟩
  | .hbm, ⟨3, _⟩ => ⟨S768x768, .bf16⟩
  | _, _ => ⟨S768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
/-
# The kernel's program, as loops over its six column chunks

The printed kernel is straight-line: each of its phases (compute and send, reduce and send, reduce and
gather, ...) is written out for the six column chunks one after another. Here the same program is stated
as loops over the chunk index `i : Fin 6`; `body_eq` (ProgramEq.lean) shows that the printed one is this one.

Chunk `i` is chunk `i / 2` of column half `i % 2`: columns `[384 (i % 2) + 128 (i / 2), … + 128)` of the
768 columns. The two column halves cross the mesh's axes in opposite orders.
-/
module

public import proofs.«01_k».proof.Proof.Gen.KernelIdeal
public import proofs.«01_k».proof.Proof.Gen.KernelIdeal.Skeleton

@[expose] public section

noncomputable section

namespace Cert.AllReduce

open Cert.KernelIdeal Cert.KernelIdeal.Gen
open Idealize.ShloMosaic Idealize.SL.Sem

variable {F : FTy → Type} [FloatOps F]

/-! ## Buffers and semaphores -/

abbrev aM : Memref sig .tc .vmem S768x384 .bf16 := Memref.whole cc0_stg0_0
abbrev bM : Memref sig .tc .vmem S384x768 .bf16 := Memref.whole cc0_stg1_0
abbrev oM : Memref sig .tc .vmem S768x768 .bf16 := Memref.whole cc0_stg2_0
abbrev gM : Memref sig .tc .vmem S768x768 .bf16 := Memref.whole cc0_scratch0
abbrev r1M : Memref sig .tc .vmem S2x384x384 .bf16 := Memref.whole cc0_scratch1
abbrev r2M : Memref sig .tc .vmem S2x192x384 .bf16 := Memref.whole cc0_scratch2

theorem aW : aM.IsWhole := Memref.isWhole_whole _
theorem bW : bM.IsWhole := Memref.isWhole_whole _
theorem oW : oM.IsWhole := Memref.isWhole_whole _
theorem gW : gM.IsWhole := Memref.isWhole_whole _
theorem r1W : r1M.IsWhole := Memref.isWhole_whole _
theorem r2W : r2M.IsWhole := Memref.isWhole_whole _

/-- The barrier semaphore of collective id 0. -/
abbrev barS : Sem sig := (SemArray.scalar (sig.barrier 0 rfl) : Sems sig S_).sem

/-! ## The chunks' offsets, as the program spells them -/

/-- The column half of chunk `i`, its place in that half, its first column, and its first column in the half. -/
def half : Fin 6 → Nat := ![0, 1, 0, 1, 0, 1]
def part : Fin 6 → Nat := ![0, 0, 1, 1, 2, 2]
def col : Fin 6 → Nat := ![0, 384, 128, 512, 256, 640]
def hcol : Fin 6 → Nat := ![0, 0, 128, 128, 256, 256]

/-- Stage `s`'s send and receive semaphores of chunk `i` are at these coordinates of their arrays. -/
def semOff (s : Fin 4) (i : Fin 6) : Fin 3 → Nat := ![half i, s.val, part i]
theorem semOff_inb : ∀ s i a, semOff s i a + S1x1x1.size a ≤ S2x4x3.size a := by decide +kernel

abbrev sendSem (s : Fin 4) (i : Fin 6) : DmaSem sig :=
  (SemArray.squeeze (cc0_scratch3.slice (Rect.unit (s := S2x4x3) (semOff s i) S1x1x1.size (semOff_inb s i))) S_ squeezes_S1x1x1_S_).sem
abbrev recvSem (s : Fin 4) (i : Fin 6) : DmaSem sig :=
  (SemArray.squeeze (cc0_scratch4.slice (Rect.unit (s := S2x4x3) (semOff s i) S1x1x1.size (semOff_inb s i))) S_ squeezes_S1x1x1_S_).sem

/-- Every row of chunk `i`. -/
def offC (i : Fin 6) : Fin 2 → Nat := ![0, col i]
/-- The half of the rows that device `c` gives away. -/
def offO (i : Fin 6) (c : Dev nD) : Fin 2 → Nat :=
  (![k0_off1, k0_off2, k0_off3, k0_off4, k0_off5, k0_off6] : Fin 6 → Dev nD → Fin 2 → Nat) i c
/-- The half it keeps. -/
def offK (i : Fin 6) (c : Dev nD) : Fin 2 → Nat :=
  (![k0_off7, k0_off9, k0_off11, k0_off13, k0_off15, k0_off17] : Fin 6 → Dev nD → Fin 2 → Nat) i c
/-- The quarter of the kept half that it gives away in turn. -/
def offP (i : Fin 6) (c : Dev nD) : Fin 2 → Nat :=
  (![k0_off8, k0_off10, k0_off12, k0_off14, k0_off16, k0_off18] : Fin 6 → Dev nD → Fin 2 → Nat) i c
/-- The quarter it owns. -/
def offS (i : Fin 6) (c : Dev nD) : Fin 2 → Nat :=
  (![k0_off19, k0_off21, k0_off23, k0_off25, k0_off27, k0_off29] : Fin 6 → Dev nD → Fin 2 → Nat) i c
/-- The owned quarter again, as the gather's sends spell it, -/
def offS' (i : Fin 6) (c : Dev nD) : Fin 2 → Nat :=
  (![k0_off20, k0_off22, k0_off24, k0_off26, k0_off28, k0_off30] : Fin 6 → Dev nD → Fin 2 → Nat) i c
/-- and the kept half. -/
def offK' (i : Fin 6) (c : Dev nD) : Fin 2 → Nat :=
  (![k0_off31, k0_off32, k0_off33, k0_off34, k0_off35, k0_off36] : Fin 6 → Dev nD → Fin 2 → Nat) i c
/-- Chunk `i`'s slab of the two receive buffers. -/
def offR (i : Fin 6) : Fin 3 → Nat := ![half i, 0, hcol i]

/-- The device that stage `s`'s transfer of chunk `i` is addressed to. -/
def tgtN (s : Fin 4) (i : Fin 6) (c : Dev nD) : Nat :=
  (![![k0_dev3, k0_dev4, k0_dev5, k0_dev6, k0_dev7, k0_dev8],
     ![k0_dev9, k0_dev10, k0_dev11, k0_dev12, k0_dev13, k0_dev14],
     ![k0_dev15, k0_dev16, k0_dev17, k0_dev18, k0_dev19, k0_dev20],
     ![k0_dev21, k0_dev22, k0_dev23, k0_dev24, k0_dev25, k0_dev26]] : Fin 4 → Fin 6 → Dev nD → Nat) s i c
theorem tgtN_lt : ∀ s i c, tgtN s i c < nD := by decide +kernel
abbrev tgt (s : Fin 4) (i : Fin 6) (c : Dev nD) : Dev nD := ⟨tgtN s i c, tgtN_lt s i c⟩

/-! ## In-bounds and word facts -/

theorem offC_inb : ∀ i a, offC i a + S768x128.size a ≤ S768x768.size a := by decide +kernel
theorem offB_inb : ∀ i a, offC i a + S384x128.size a ≤ S384x768.size a := by decide +kernel
theorem offO_inb : ∀ i c a, offO i c a + S384x128.size a ≤ S768x768.size a := by decide +kernel
theorem offK_inb : ∀ i c a, offK i c a + S384x128.size a ≤ S768x768.size a := by decide +kernel
theorem offK'_inb : ∀ i c a, offK' i c a + S384x128.size a ≤ S768x768.size a := by decide +kernel
theorem offP_inb : ∀ i c a, offP i c a + S192x128.size a ≤ S768x768.size a := by decide +kernel
theorem offS_inb : ∀ i c a, offS i c a + S192x128.size a ≤ S768x768.size a := by decide +kernel
theorem offS'_inb : ∀ i c a, offS' i c a + S192x128.size a ≤ S768x768.size a := by decide +kernel
theorem offR1_inb : ∀ i a, offR i a + S1x384x128.size a ≤ S2x384x384.size a := by decide +kernel
theorem offR2_inb : ∀ i a, offR i a + S1x192x128.size a ≤ S2x192x384.size a := by decide +kernel

abbrev rC (i : Fin 6) : Rect S768x768 := Rect.unit (s := S768x768) (offC i) S768x128.size (offC_inb i)
abbrev rB (i : Fin 6) : Rect S384x768 := Rect.unit (s := S384x768) (offC i) S384x128.size (offB_inb i)
abbrev rO (i : Fin 6) (c : Dev nD) : Rect S768x768 := Rect.unit (s := S768x768) (offO i c) S384x128.size (offO_inb i c)
abbrev rK (i : Fin 6) (c : Dev nD) : Rect S768x768 := Rect.unit (s := S768x768) (offK i c) S384x128.size (offK_inb i c)
abbrev rK' (i : Fin 6) (c : Dev nD) : Rect S768x768 := Rect.unit (s := S768x768) (offK' i c) S384x128.size (offK'_inb i c)
abbrev rP (i : Fin 6) (c : Dev nD) : Rect S768x768 := Rect.unit (s := S768x768) (offP i c) S192x128.size (offP_inb i c)
abbrev rS (i : Fin 6) (c : Dev nD) : Rect S768x768 := Rect.unit (s := S768x768) (offS i c) S192x128.size (offS_inb i c)
abbrev rS' (i : Fin 6) (c : Dev nD) : Rect S768x768 := Rect.unit (s := S768x768) (offS' i c) S192x128.size (offS'_inb i c)
abbrev rR1 (i : Fin 6) : Rect S2x384x384 := Rect.unit (s := S2x384x384) (offR i) S1x384x128.size (offR1_inb i)
abbrev rR2 (i : Fin 6) : Rect S2x192x384 := Rect.unit (s := S2x192x384) (offR i) S1x192x128.size (offR2_inb i)

theorem rC_packed : ∀ i, (rC i).PackedRows (EltTy.packing .bf16) := by decide +kernel
theorem rK_packed : ∀ i c, (rK i c).PackedRows (EltTy.packing .bf16) := by decide +kernel
theorem rS_packed : ∀ i c, (rS i c).PackedRows (EltTy.packing .bf16) := by decide +kernel
theorem rO_words : ∀ i c, (rO i c).WholeWords (EltTy.packing .bf16) := by decide +kernel
theorem rK'_words : ∀ i c, (rK' i c).WholeWords (EltTy.packing .bf16) := by decide +kernel
theorem rP_words : ∀ i c, (rP i c).WholeWords (EltTy.packing .bf16) := by decide +kernel
theorem rS'_words : ∀ i c, (rS' i c).WholeWords (EltTy.packing .bf16) := by decide +kernel
theorem rR1_words : ∀ i, (rR1 i).WholeWords (EltTy.packing .bf16) := by decide +kernel
theorem rR2_words : ∀ i, (rR2 i).WholeWords (EltTy.packing .bf16) := by decide +kernel

/-! ## The slices the transfers name -/

abbrev gO (i : Fin 6) (c : Dev nD) : Memref sig .tc .vmem S384x128 .bf16 := gM.slice (rO i c) (fun _ => rfl)
abbrev gP (i : Fin 6) (c : Dev nD) : Memref sig .tc .vmem S192x128 .bf16 := gM.slice (rP i c) (fun _ => rfl)
abbrev oS (i : Fin 6) (c : Dev nD) : Memref sig .tc .vmem S192x128 .bf16 := oM.slice (rS' i c) (fun _ => rfl)
abbrev oP (i : Fin 6) (c : Dev nD) : Memref sig .tc .vmem S192x128 .bf16 := oM.slice (rP i c) (fun _ => rfl)
abbrev oK (i : Fin 6) (c : Dev nD) : Memref sig .tc .vmem S384x128 .bf16 := oM.slice (rK' i c) (fun _ => rfl)
abbrev oO (i : Fin 6) (c : Dev nD) : Memref sig .tc .vmem S384x128 .bf16 := oM.slice (rO i c) (fun _ => rfl)
abbrev d1 (i : Fin 6) : Memref sig .tc .vmem S384x128 .bf16 := (r1M.slice (rR1 i) (fun _ => rfl)).squeeze S384x128 squeezes_S1x384x128_S384x128
abbrev d2 (i : Fin 6) : Memref sig .tc .vmem S192x128 .bf16 := (r2M.slice (rR2 i) (fun _ => rfl)).squeeze S192x128 squeezes_S1x192x128_S192x128

theorem gO_exact (i : Fin 6) (c : Dev nD) : (gO i c).view.WordExact := gW.wordExact_slice rfl _ (rO_words i c)
theorem gP_exact (i : Fin 6) (c : Dev nD) : (gP i c).view.WordExact := gW.wordExact_slice rfl _ (rP_words i c)
theorem oS_exact (i : Fin 6) (c : Dev nD) : (oS i c).view.WordExact := oW.wordExact_slice rfl _ (rS'_words i c)
theorem oP_exact (i : Fin 6) (c : Dev nD) : (oP i c).view.WordExact := oW.wordExact_slice rfl _ (rP_words i c)
theorem oK_exact (i : Fin 6) (c : Dev nD) : (oK i c).view.WordExact := oW.wordExact_slice rfl _ (rK'_words i c)
theorem oO_exact (i : Fin 6) (c : Dev nD) : (oO i c).view.WordExact := oW.wordExact_slice rfl _ (rO_words i c)
theorem d1_exact (i : Fin 6) : (d1 i).view.WordExact := (r1W.wordExact_slice rfl _ (rR1_words i)).reshape _ _
theorem d2_exact (i : Fin 6) : (d2 i).view.WordExact := (r2W.wordExact_slice rfl _ (rR2_words i)).reshape _ _

/-! ## The program -/

abbrev P (F : FTy → Type) (α : Type) : Type 1 := Prog (TpuEff nD τ sig (Elt F) Λ₀ .tc) α

/-- `f` on each element of a list, in order. -/
def each {α : Type} (f : α → P F PUnit) : List α → P F PUnit
  | [] => pure ⟨⟩
  | a :: l => do f a; each f l

/-- Chunk `i` of the device's own product, into the staging buffer. -/
def comp (v : Vec F S768x384 .bf16) (i : Fin 6) : P F PUnit := do
  let b : Vec F S384x128 .bf16 ← Prog.lift (.load bM (rB i).toLoadRect (View.loadsAt_vmem h_S384x128))
  let _ : Vec F S768x128 .bf16 ← Prog.lift (.load gM (rC i).toLoadRect (View.loadsAt_vmem h_S768x128))
  Prog.lift (.store gM (rC i) (k0_pay2 v b) Finset.univ (View.stores_vmem h_S768x128 (gW.storeExact_slice rfl _ (rC_packed i)) (fun _ => rfl)) (.inl rfl))

def send0 (c : Dev nD) (i : Fin 6) : P F PUnit :=
  Prog.lift (.enqueueDma (gO i c) (.remote (Dev.tc (tgt 0 i c)) (d1 i) (.dma (sendSem 0 i))) (.dma (recvSem 0 i)) (gO_exact i c) (d1_exact i) ⟨⟨rfl, Or.inl rfl⟩, trivial⟩)
def send1 (c : Dev nD) (i : Fin 6) : P F PUnit :=
  Prog.lift (.enqueueDma (gP i c) (.remote (Dev.tc (tgt 1 i c)) (d2 i) (.dma (sendSem 1 i))) (.dma (recvSem 1 i)) (gP_exact i c) (d2_exact i) ⟨⟨rfl, Or.inl rfl⟩, trivial⟩)
def send2 (c : Dev nD) (i : Fin 6) : P F PUnit :=
  Prog.lift (.enqueueDma (oS i c) (.remote (Dev.tc (tgt 2 i c)) (oS i c) (.dma (sendSem 2 i))) (.dma (recvSem 2 i)) (oS_exact i c) (oS_exact i c) ⟨⟨rfl, Or.inl rfl⟩, trivial⟩)
def send3 (c : Dev nD) (i : Fin 6) : P F PUnit :=
  Prog.lift (.enqueueDma (oK i c) (.remote (Dev.tc (tgt 3 i c)) (oK i c) (.dma (sendSem 3 i))) (.dma (recvSem 3 i)) (oK_exact i c) (oK_exact i c) ⟨⟨rfl, Or.inl rfl⟩, trivial⟩)

def recv0 (c : Dev nD) (i : Fin 6) : P F PUnit := Prog.lift (.waitDma2 (recvSem 0 i) (gO i c) (d1 i) (gO_exact i c) (d1_exact i))
def recv1 (c : Dev nD) (i : Fin 6) : P F PUnit := Prog.lift (.waitDma2 (recvSem 1 i) (gP i c) (d2 i) (gP_exact i c) (d2_exact i))
def recv2 (c : Dev nD) (i : Fin 6) : P F PUnit := Prog.lift (.waitDma2 (recvSem 2 i) (oP i c) (oP i c) (oP_exact i c) (oP_exact i c))
def recv3 (c : Dev nD) (i : Fin 6) : P F PUnit := Prog.lift (.waitDma2 (recvSem 3 i) (oO i c) (oO i c) (oO_exact i c) (oO_exact i c))

def sent0 (c : Dev nD) (i : Fin 6) : P F PUnit := Prog.lift (.waitDma2 (sendSem 0 i) (d1 i) (gO i c) (d1_exact i) (gO_exact i c))
def sent1 (c : Dev nD) (i : Fin 6) : P F PUnit := Prog.lift (.waitDma2 (sendSem 1 i) (d2 i) (gP i c) (d2_exact i) (gP_exact i c))
def sent2 (c : Dev nD) (i : Fin 6) : P F PUnit := Prog.lift (.waitDma2 (sendSem 2 i) (oS i c) (oS i c) (oS_exact i c) (oS_exact i c))
def sent3 (c : Dev nD) (i : Fin 6) : P F PUnit := Prog.lift (.waitDma2 (sendSem 3 i) (oK i c) (oK i c) (oK_exact i c) (oK_exact i c))

/-- The received half added to the kept half of the staging buffer. -/
def red0 (c : Dev nD) (i : Fin 6) : P F PUnit := do
  let x : Vec F S384x128 .bf16 ← Prog.lift (.load gM (rK i c).toLoadRect (View.loadsAt_vmem h_S384x128))
  let y : Vec F S1x384x128 .bf16 ← Prog.lift (.load r1M (rR1 i).toLoadRect (View.loadsAt_vmem h_S1x384x128))
  let _ : Vec F S384x128 .bf16 ← Prog.lift (.load gM (rK i c).toLoadRect (View.loadsAt_vmem h_S384x128))
  Prog.lift (.store gM (rK i c) (k0_pay8 x y) Finset.univ (View.stores_vmem h_S384x128 (gW.storeExact_slice rfl _ (rK_packed i c)) (fun _ => rfl)) (.inl rfl))

/-- The received quarter added to the owned quarter of the staging buffer, into the result. -/
def red1 (c : Dev nD) (i : Fin 6) : P F PUnit := do
  let x : Vec F S192x128 .bf16 ← Prog.lift (.load gM (rS i c).toLoadRect (View.loadsAt_vmem h_S192x128))
  let y : Vec F S1x192x128 .bf16 ← Prog.lift (.load r2M (rR2 i).toLoadRect (View.loadsAt_vmem h_S1x192x128))
  let _ : Vec F S192x128 .bf16 ← Prog.lift (.load oM (rS i c).toLoadRect (View.loadsAt_vmem h_S192x128))
  Prog.lift (.store oM (rS i c) (k0_pay14 x y) Finset.univ (View.stores_vmem h_S192x128 (oW.storeExact_slice rfl _ (rS_packed i c)) (fun _ => rfl)) (.inl rfl))

/-- The devices the two barrier signals go to. -/
abbrev nb0 (c : Dev nD) : Dev nD := ⟨k0_dev1 c, k0_dev1_lt c⟩
abbrev nb1 (c : Dev nD) : Dev nD := ⟨k0_dev2 c, k0_dev2_lt c⟩

/-- Everything the kernel does on device `c`. -/
def prog (c : Dev nD) : P F PUnit := do
  semSignalWord (nb0 c) barS 1#32
  semSignalWord (nb1 c) barS 1#32
  let v : Vec F S768x384 .bf16 ← Prog.lift (.load aM (Rect.unit (s := S768x384) ![0, 0] S768x384.size inb_S768x384_S768x384_0_0).toLoadRect (View.loadsAt_vmem h_S768x384))
  comp v 0
  semWaitWord barS 2#32
  send0 c 0
  each (fun i => do comp v i; send0 c i) [1, 2, 3, 4, 5]
  each (fun i => do recv0 c i; red0 c i; send1 c i) [0, 1, 2, 3, 4, 5]
  each (fun i => do recv1 c i; red1 c i; send2 c i) [0, 1, 2, 3, 4, 5]
  each (fun i => do recv2 c i; send3 c i) [0, 1, 2, 3, 4, 5]
  each (fun i => recv3 c i) [0, 1, 2, 3, 4, 5]
  each (fun i => sent0 c i) [0, 1, 2, 3, 4, 5]
  each (fun i => sent1 c i) [0, 1, 2, 3, 4, 5]
  each (fun i => sent2 c i) [0, 1, 2, 3, 4, 5]
  each (fun i => sent3 c i) [0, 1, 2, 3, 4, 5]

end Cert.AllReduce

end
-- ==== Proof.Geometry.lean ====
/-
# Rows, columns and partners

Each device keeps one half of the rows of every chunk and gives the other half to its first partner; of the
kept half it owns one quarter and gives the other to its second partner. Which half and which quarter depends
on the device's place in the mesh and on the chunk's column half. This module puts the program's offsets and
device numbers in closed form and cuts the buffers into the regions that the transfers carry.
-/
module

public import proofs.«01_k».proof.Proof.Program
public import Idealize.ShloMosaic.Lib.ValueIdxCore

@[expose] public section

noncomputable section

namespace Cert.AllReduce

open Cert.KernelIdeal Cert.KernelIdeal.Gen
open Idealize.ShloMosaic Idealize.SL.Sem

/-! ## Closed forms -/

/-- Which half of the rows device `c` keeps of chunk `i`, and which quarter of that half it owns. -/
def kb1 (i : Fin 6) (c : Dev nD) : Nat := (if half i = 0 then ![0, 1, 1, 0] else ![0, 0, 1, 1] : Fin 4 → Nat) c
def kb2 (i : Fin 6) (c : Dev nD) : Nat := (if half i = 0 then ![0, 0, 1, 1] else ![0, 1, 1, 0] : Fin 4 → Nat) c

/-- First rows: of the half given away, the half kept, the quarter given away, the quarter owned. -/
def rowO (i : Fin 6) (c : Dev nD) : Nat := (1 - kb1 i c) * 384
def rowK (i : Fin 6) (c : Dev nD) : Nat := kb1 i c * 384
def rowP (i : Fin 6) (c : Dev nD) : Nat := kb1 i c * 384 + (1 - kb2 i c) * 192
def rowS (i : Fin 6) (c : Dev nD) : Nat := kb1 i c * 384 + kb2 i c * 192

theorem offO_eq : ∀ i c, offO i c = ![rowO i c, col i] := by decide +kernel
theorem offK_eq : ∀ i c, offK i c = ![rowK i c, col i] := by decide +kernel
theorem offK'_eq : ∀ i c, offK' i c = ![rowK i c, col i] := by decide +kernel
theorem offP_eq : ∀ i c, offP i c = ![rowP i c, col i] := by decide +kernel
theorem offS_eq : ∀ i c, offS i c = ![rowS i c, col i] := by decide +kernel
theorem offS'_eq : ∀ i c, offS' i c = ![rowS i c, col i] := by decide +kernel

/-- Which of the two neighbours stage `s`'s partner is. -/
def side (s : Fin 4) (i : Fin 6) : Fin 2 :=
  if (s = 0 ∨ s = 3) ↔ half i = 0 then 0 else 1
/-- The two neighbours. -/
def nb (d : Fin 2) (c : Dev nD) : Dev nD := if d = 0 then nb0 c else nb1 c

theorem nb_zero (c : Dev nD) : nb 0 c = nb0 c := rfl
theorem nb_one (c : Dev nD) : nb 1 c = nb1 c := rfl
theorem nb_nb : ∀ d c, nb d (nb d c) = c := by decide +kernel
theorem tgt_eq_nb : ∀ s i c, tgt s i c = nb (side s i) c := by decide +kernel
theorem tgt_tgt : ∀ s i c, tgt s i (tgt s i c) = c := by decide +kernel
theorem tgt_two : ∀ i c, tgt 2 i c = tgt 1 i c := by decide +kernel
theorem tgt_three : ∀ i c, tgt 3 i c = tgt 0 i c := by decide +kernel

theorem rowO_tgt : ∀ i c, rowO i (tgt 0 i c) = rowK i c := by decide +kernel
theorem rowK_tgt : ∀ i c, rowK i (tgt 0 i c) = rowO i c := by decide +kernel
theorem rowO_tgt3 : ∀ i c, rowO i (tgt 3 i c) = rowK i c := by decide +kernel
theorem rowP_tgt : ∀ i c, rowP i (tgt 1 i c) = rowS i c := by decide +kernel
theorem rowS_tgt : ∀ i c, rowS i (tgt 1 i c) = rowP i c := by decide +kernel
theorem rowP_tgt2 : ∀ i c, rowP i (tgt 2 i c) = rowS i c := by decide +kernel

/-- The two halves, and the two quarters of the kept half, in one order or the other. -/
theorem halves : ∀ i c, rowK i c = 0 ∧ rowO i c = 384 ∨ rowK i c = 384 ∧ rowO i c = 0 := by decide +kernel
theorem quarters : ∀ i c, rowS i c = rowK i c ∧ rowP i c = rowK i c + 192 ∨ rowP i c = rowK i c ∧ rowS i c = rowK i c + 192 := by
  decide +kernel

/-! ## Regions of a 768 by 768 buffer -/

/-- `n` rows from `r` of the 128 columns from `q`. -/
def reg (r n q : Nat) : Finset S768x768.Idx :=
  Finset.univ.filter fun x => (r ≤ (x 0).val ∧ (x 0).val < r + n) ∧ (q ≤ (x 1).val ∧ (x 1).val < q + 128)

theorem mem_reg {r n q : Nat} {x : S768x768.Idx} :
    x ∈ reg r n q ↔ (r ≤ (x 0).val ∧ (x 0).val < r + n) ∧ (q ≤ (x 1).val ∧ (x 1).val < q + 128) := by
  simp [reg]

theorem unit_set {off sz : Fin 2 → Nat} {inb : ∀ a, off a + sz a ≤ S768x768.size a} {r n q : Nat}
    (ho : off = ![r, q]) (hs : sz = ![n, 128]) : (Rect.unit (s := S768x768) off sz inb).set = reg r n q := by
  subst ho hs
  ext x
  rw [Rect.mem_set_unit, mem_reg, Fin.forall_fin_two]
  rfl

theorem rC_set (i : Fin 6) : (rC i).set = reg 0 768 (col i) := unit_set rfl rfl
theorem rO_set (i : Fin 6) (c : Dev nD) : (rO i c).set = reg (rowO i c) 384 (col i) := unit_set (offO_eq i c) rfl
theorem rK_set (i : Fin 6) (c : Dev nD) : (rK i c).set = reg (rowK i c) 384 (col i) := unit_set (offK_eq i c) rfl
theorem rK'_set (i : Fin 6) (c : Dev nD) : (rK' i c).set = reg (rowK i c) 384 (col i) := unit_set (offK'_eq i c) rfl
theorem rP_set (i : Fin 6) (c : Dev nD) : (rP i c).set = reg (rowP i c) 192 (col i) := unit_set (offP_eq i c) rfl
theorem rS_set (i : Fin 6) (c : Dev nD) : (rS i c).set = reg (rowS i c) 192 (col i) := unit_set (offS_eq i c) rfl
theorem rS'_set (i : Fin 6) (c : Dev nD) : (rS' i c).set = reg (rowS i c) 192 (col i) := unit_set (offS'_eq i c) rfl

theorem gO_set (i : Fin 6) (c : Dev nD) : (gO i c).view.set = reg (rowO i c) 384 (col i) := (View.set_slice_whole _ _).trans (rO_set i c)
theorem gP_set (i : Fin 6) (c : Dev nD) : (gP i c).view.set = reg (rowP i c) 192 (col i) := (View.set_slice_whole _ _).trans (rP_set i c)
theorem oS_set (i : Fin 6) (c : Dev nD) : (oS i c).view.set = reg (rowS i c) 192 (col i) := (View.set_slice_whole _ _).trans (rS'_set i c)
theorem oK_set (i : Fin 6) (c : Dev nD) : (oK i c).view.set = reg (rowK i c) 384 (col i) := (View.set_slice_whole _ _).trans (rK'_set i c)

/-- Chunk `i`'s slabs of the receive buffers. -/
abbrev slab1 (i : Fin 6) : Finset S2x384x384.Idx := (rR1 i).set
abbrev slab2 (i : Fin 6) : Finset S2x192x384.Idx := (rR2 i).set

theorem d1_set (i : Fin 6) : (d1 i).view.set = slab1 i := (View.set_reshape _ _).trans (View.set_slice_whole _ _)
theorem d2_set (i : Fin 6) : (d2 i).view.set = slab2 i := (View.set_reshape _ _).trans (View.set_slice_whole _ _)

theorem mem_slab1 {i : Fin 6} {y : S2x384x384.Idx} :
    y ∈ slab1 i ↔ (y 0).val = half i ∧ hcol i ≤ (y 2).val ∧ (y 2).val < hcol i + 128 := by
  have h0 := (y 0).isLt
  have h1 : (y 1).val < 384 := (y 1).isLt
  rw [Rect.mem_set_unit, Fin.forall_fin_succ, Fin.forall_fin_two]
  show (half i ≤ (y 0).val ∧ (y 0).val < half i + 1) ∧ (0 ≤ (y 1).val ∧ (y 1).val < 0 + 384) ∧ (hcol i ≤ (y 2).val ∧ (y 2).val < hcol i + 128) ↔ _
  omega
theorem mem_slab2 {i : Fin 6} {y : S2x192x384.Idx} :
    y ∈ slab2 i ↔ (y 0).val = half i ∧ hcol i ≤ (y 2).val ∧ (y 2).val < hcol i + 128 := by
  have h0 := (y 0).isLt
  have h1 : (y 1).val < 192 := (y 1).isLt
  rw [Rect.mem_set_unit, Fin.forall_fin_succ, Fin.forall_fin_two]
  show (half i ≤ (y 0).val ∧ (y 0).val < half i + 1) ∧ (0 ≤ (y 1).val ∧ (y 1).val < 0 + 192) ∧ (hcol i ≤ (y 2).val ∧ (y 2).val < hcol i + 128) ↔ _
  omega

/-! ## Chunks -/

/-- The chunk of a column number, and of a column half with a column of it. -/
theorem chunk_lt {q : Nat} (h : q < 768) : 2 * (q / 128 % 3) + q / 384 < 6 := by omega
def chunk (x : S768x768.Idx) : Fin 6 := ⟨2 * ((x 1).val / 128 % 3) + (x 1).val / 384, chunk_lt (x 1).isLt⟩
theorem slabChunk_lt {h w : Nat} (hh : h < 2) (hw : w < 384) : 2 * (w / 128) + h < 6 := by omega
def slabChunk1 (y : S2x384x384.Idx) : Fin 6 := ⟨2 * ((y 2).val / 128) + (y 0).val, slabChunk_lt (y 0).isLt (y 2).isLt⟩
def slabChunk2 (y : S2x192x384.Idx) : Fin 6 := ⟨2 * ((y 2).val / 128) + (y 0).val, slabChunk_lt (y 0).isLt (y 2).isLt⟩

theorem chunk_num : ∀ i : Fin 6, i.val = 2 * (col i / 128 % 3) + col i / 384 ∧ col i % 128 = 0 := by decide
theorem slab_num : ∀ i : Fin 6, i.val = 2 * (hcol i / 128) + half i ∧ hcol i % 128 = 0 := by decide
theorem col_num : ∀ i : Fin 6, col i = half i * 384 + hcol i := by decide
theorem col_of : ∀ i : Fin 6, col i = (i.val % 2) * 384 + (i.val / 2) * 128 := by decide
theorem half_of : ∀ i : Fin 6, half i = i.val % 2 ∧ hcol i = (i.val / 2) * 128 := by decide

theorem chunk_of_col {x : S768x768.Idx} {i : Fin 6} (h : col i ≤ (x 1).val ∧ (x 1).val < col i + 128) : chunk x = i := by
  obtain ⟨h1, h2⟩ := h
  have hc := col_of i
  have hi := i.isLt
  apply Fin.ext
  show 2 * ((x 1).val / 128 % 3) + (x 1).val / 384 = i.val
  obtain ⟨v, hv⟩ := i
  simp only at hc ⊢
  interval_cases v <;> simp only [hc] at h1 h2 <;> omega
theorem chunk_of_mem {x : S768x768.Idx} {r n : Nat} {i : Fin 6} (h : x ∈ reg r n (col i)) : chunk x = i :=
  chunk_of_col (mem_reg.mp h).2
theorem mem_chunk (x : S768x768.Idx) : x ∈ reg 0 768 (col (chunk x)) := by
  have h0 : (x 0).val < 768 := (x 0).isLt
  have h1 : (x 1).val < 768 := (x 1).isLt
  have hc := col_of (chunk x)
  have hv : (chunk x).val = 2 * ((x 1).val / 128 % 3) + (x 1).val / 384 := rfl
  rw [mem_reg, hc, hv]
  have hk : (x 1).val / 128 < 6 := by omega
  have h3 : (x 1).val / 384 = (x 1).val / 128 / 3 := by omega
  have hr : 128 * ((x 1).val / 128) ≤ (x 1).val ∧ (x 1).val < 128 * ((x 1).val / 128) + 128 := by omega
  rw [h3]
  generalize (x 1).val / 128 = k at hk hr
  interval_cases k <;> omega
theorem slabChunk1_of_mem {y : S2x384x384.Idx} {i : Fin 6} (h : y ∈ slab1 i) : slabChunk1 y = i := by
  obtain ⟨h0, h1, h2⟩ := mem_slab1.mp h
  have hc := half_of i
  have hi := i.isLt
  apply Fin.ext
  show 2 * ((y 2).val / 128) + (y 0).val = i.val
  omega
theorem slabChunk2_of_mem {y : S2x192x384.Idx} {i : Fin 6} (h : y ∈ slab2 i) : slabChunk2 y = i := by
  obtain ⟨h0, h1, h2⟩ := mem_slab2.mp h
  have hc := half_of i
  have hi := i.isLt
  apply Fin.ext
  show 2 * ((y 2).val / 128) + (y 0).val = i.val
  omega
theorem mem_slabChunk1 (y : S2x384x384.Idx) : y ∈ slab1 (slabChunk1 y) := by
  have h0 : (y 0).val < 2 := (y 0).isLt
  have h1 : (y 2).val < 384 := (y 2).isLt
  have hc := half_of (slabChunk1 y)
  have hv : (slabChunk1 y).val = 2 * ((y 2).val / 128) + (y 0).val := rfl
  rw [mem_slab1]
  omega
theorem mem_slabChunk2 (y : S2x192x384.Idx) : y ∈ slab2 (slabChunk2 y) := by
  have h0 : (y 0).val < 2 := (y 0).isLt
  have h1 : (y 2).val < 384 := (y 2).isLt
  have hc := half_of (slabChunk2 y)
  have hv : (slabChunk2 y).val = 2 * ((y 2).val / 128) + (y 0).val := rfl
  rw [mem_slab2]
  omega

/-! ## The buffers cut into chunks, a chunk into the regions -/

theorem chunks_disjoint : (Set.univ : Set (Fin 6)).PairwiseDisjoint fun i => reg 0 768 (col i) := by
  intro i _ j _ hij
  refine Finset.disjoint_left.mpr fun x hx hy => hij ?_
  rw [← chunk_of_mem hx, ← chunk_of_mem hy]
theorem chunks_cover : (Finset.univ : Finset (Fin 6)).biUnion (fun i => reg 0 768 (col i)) = Finset.univ :=
  Finset.eq_univ_iff_forall.mpr fun x => Finset.mem_biUnion.mpr ⟨chunk x, Finset.mem_univ _, mem_chunk x⟩
theorem slabs1_disjoint : (Set.univ : Set (Fin 6)).PairwiseDisjoint slab1 := by
  intro i _ j _ hij
  refine Finset.disjoint_left.mpr fun x hx hy => hij ?_
  rw [← slabChunk1_of_mem hx, ← slabChunk1_of_mem hy]
theorem slabs1_cover : (Finset.univ : Finset (Fin 6)).biUnion slab1 = Finset.univ :=
  Finset.eq_univ_iff_forall.mpr fun y => Finset.mem_biUnion.mpr ⟨slabChunk1 y, Finset.mem_univ _, mem_slabChunk1 y⟩
theorem slabs2_disjoint : (Set.univ : Set (Fin 6)).PairwiseDisjoint slab2 := by
  intro i _ j _ hij
  refine Finset.disjoint_left.mpr fun x hx hy => hij ?_
  rw [← slabChunk2_of_mem hx, ← slabChunk2_of_mem hy]
theorem slabs2_cover : (Finset.univ : Finset (Fin 6)).biUnion slab2 = Finset.univ :=
  Finset.eq_univ_iff_forall.mpr fun y => Finset.mem_biUnion.mpr ⟨slabChunk2 y, Finset.mem_univ _, mem_slabChunk2 y⟩

theorem halves_disjoint (i : Fin 6) (c : Dev nD) : Disjoint (reg (rowK i c) 384 (col i)) (reg (rowO i c) 384 (col i)) := by
  have h := halves i c
  refine Finset.disjoint_left.mpr fun x hx hy => ?_
  rw [mem_reg] at hx hy
  omega
theorem halves_union (i : Fin 6) (c : Dev nD) :
    reg 0 768 (col i) = reg (rowK i c) 384 (col i) ∪ reg (rowO i c) 384 (col i) := by
  have h := halves i c
  ext x
  rw [Finset.mem_union, mem_reg, mem_reg, mem_reg]
  omega
theorem quarters_disjoint (i : Fin 6) (c : Dev nD) : Disjoint (reg (rowS i c) 192 (col i)) (reg (rowP i c) 192 (col i)) := by
  have h := quarters i c
  refine Finset.disjoint_left.mpr fun x hx hy => ?_
  rw [mem_reg] at hx hy
  omega
theorem quarters_union (i : Fin 6) (c : Dev nD) :
    reg (rowK i c) 384 (col i) = reg (rowS i c) 192 (col i) ∪ reg (rowP i c) 192 (col i) := by
  have h := quarters i c
  ext x
  rw [Finset.mem_union, mem_reg, mem_reg, mem_reg]
  omega

end Cert.AllReduce

end
-- ==== Proof.Contents.lean ====
/-
# What the buffers hold

The contents of every buffer after every phase, over any float values, as functions of the blocks `A c` and
`B c` that each device `c` holds: its own product (`own`), its sum with the first partner's (`sum1`), and the
result (`out`), which no longer depends on the device. Then: each store and each transfer leaves them.
-/
module

public import proofs.«01_k».proof.Proof.Geometry
public import Idealize.ShloMosaic.Lib.Pipeline.Value

@[expose] public section

noncomputable section

namespace Cert.AllReduce

open Cert.KernelIdeal Cert.KernelIdeal.Gen
open Idealize.ShloMosaic Idealize.SL.Sem Idealize.ShloMosaic.ValueIdx

variable {F : FTy → Type} [FloatOps F]

/-- The columns of chunk `i` of a device's second block. -/
def cols (b : Vec F S384x768 .bf16) (i : Fin 6) : Vec F S384x128 .bf16 := fun j => b ((rB i).emb j)

variable (A : Dev nD → Vec F S768x384 .bf16) (B : Dev nD → Vec F S384x768 .bf16)

/-- Where an index of the result lies in its chunk. -/
def inChunk (x : S768x768.Idx) : S768x128.Idx := ix2 (x 0) (⟨(x 1).val % 128, Nat.mod_lt _ (by decide)⟩ : Fin 128)

/-- Device `c`'s own product. -/
def own (c : Dev nD) : Vec F S768x768 .bf16 := fun x => k0_pay2 (A c) (cols (B c) (chunk x)) (inChunk x)

/-- Its sum with its first partner's. -/
def sum1 (c : Dev nD) : Vec F S768x768 .bf16 := fun x =>
  FloatOps.addf (φ := .bf16) (own A B c x) (own A B (tgt 0 (chunk x) c) x)

/-- That sum and its second partner's, added. -/
def sum2 (c : Dev nD) : Vec F S768x768 .bf16 := fun x =>
  FloatOps.addf (φ := .bf16) (sum1 A B c x) (sum1 A B (tgt 1 (chunk x) c) x)

/-- The device that owns a quarter of the rows of a chunk. -/
def owner (i : Fin 6) (q : Fin 4) : Dev nD := (if half i = 0 then ![0, 3, 1, 2] else ![0, 1, 3, 2] : Fin 4 → Fin 4) q
theorem owner_row : ∀ i c, ∃ q : Fin 4, q.val * 192 = rowS i c ∧ owner i q = c := by decide +kernel
theorem quarter_lt (x : S768x768.Idx) : (x 0).val / 192 < 4 := by
  have h0 : (x 0).val < 768 := (x 0).isLt
  omega

/-- The result: at each element, its owner's sum of four. -/
def out : Vec F S768x768 .bf16 := fun x => sum2 A B (owner (chunk x) ⟨(x 0).val / 192, quarter_lt x⟩) x

theorem out_of_mem {c : Dev nD} {i : Fin 6} {x : S768x768.Idx} (h : x ∈ reg (rowS i c) 192 (col i)) : out A B x = sum2 A B c x := by
  obtain ⟨q, hq, ho⟩ := owner_row i c
  have e : (⟨(x 0).val / 192, quarter_lt x⟩ : Fin 4) = q := by
    have := (mem_reg.mp h).1
    apply Fin.ext
    show (x 0).val / 192 = q.val
    omega
  unfold out
  rw [chunk_of_mem h, e, ho]

theorem rowK_le : ∀ i c, rowK i c ≤ 384 := by decide +kernel
theorem rowS_le : ∀ i c, rowS i c ≤ 576 := by decide +kernel

/-- The index of the result that an element of a receive buffer belongs to. -/
def up1 (c : Dev nD) (y : S2x384x384.Idx) : S768x768.Idx :=
  ix2 (⟨rowK (slabChunk1 y) c + (y 1).val, by have := rowK_le (slabChunk1 y) c; have h : (y 1).val < 384 := (y 1).isLt; omega⟩ : Fin 768)
    (⟨384 * (y 0).val + (y 2).val, by have h : (y 0).val < 2 := (y 0).isLt; have h' : (y 2).val < 384 := (y 2).isLt; omega⟩ : Fin 768)
def up2 (c : Dev nD) (y : S2x192x384.Idx) : S768x768.Idx :=
  ix2 (⟨rowS (slabChunk2 y) c + (y 1).val, by have := rowS_le (slabChunk2 y) c; have h : (y 1).val < 192 := (y 1).isLt; omega⟩ : Fin 768)
    (⟨384 * (y 0).val + (y 2).val, by have h : (y 0).val < 2 := (y 0).isLt; have h' : (y 2).val < 384 := (y 2).isLt; omega⟩ : Fin 768)

/-- What device `c` receives: from its first partner, that device's product, -/
def land1 (c : Dev nD) : Vec F S2x384x384 .bf16 := fun y => own A B (tgt 0 (slabChunk1 y) c) (up1 c y)
/-- and from its second partner, that device's sum. -/
def land2 (c : Dev nD) : Vec F S2x192x384 .bf16 := fun y => sum1 A B (tgt 1 (slabChunk2 y) c) (up2 c y)

/-! ## Coordinates -/

theorem emb_val {s : Shape} {off sz : Fin s.rank → Nat} {inb : ∀ a, off a + sz a ≤ s.size a} (j : (Rect.unit (s := s) off sz inb).shape.Idx) (a : Fin s.rank) :
    ((Rect.unit (s := s) off sz inb).emb j a).val = off a + (j a).val := by
  rw [Rect.emb_apply]
  show off a + 1 * (j a).val = _
  rw [Nat.one_mul]

/-- In a rectangle of the result at first row `r` and first column `q`. -/
theorem unit_val {off sz : Fin 2 → Nat} {inb : ∀ a, off a + sz a ≤ S768x768.size a} {r q : Nat} (ho : off = ![r, q])
    (j : (Rect.unit (s := S768x768) off sz inb).shape.Idx) :
    ((Rect.unit (s := S768x768) off sz inb).emb j 0).val = r + (j 0).val ∧ ((Rect.unit (s := S768x768) off sz inb).emb j 1).val = q + (j 1).val := by
  subst ho
  exact ⟨emb_val j 0, emb_val j 1⟩

theorem idx_ext {x y : S768x768.Idx} (h0 : (x 0).val = (y 0).val) (h1 : (x 1).val = (y 1).val) : x = y := by
  funext a
  match a with
  | ⟨0, _⟩ => exact Fin.ext h0
  | ⟨1, _⟩ => exact Fin.ext h1

theorem emb_mem {s : Shape} (r : Rect s) (j : r.shape.Idx) : r.emb j ∈ r.set := by
  rw [← Rect.map_emb_univ]
  exact Finset.mem_map_of_mem _ (Finset.mem_univ _)

/-- The slab index of an element of a chunk. -/
def lift1 (i : Fin 6) (j : S384x128.Idx) : S2x384x384.Idx := (rR1 i).emb (Fin.cons (α := S1x384x128.Coord) (⟨0, Nat.one_pos⟩ : Fin 1) j)
def lift2 (i : Fin 6) (j : S192x128.Idx) : S2x192x384.Idx := (rR2 i).emb (Fin.cons (α := S1x192x128.Coord) (⟨0, Nat.one_pos⟩ : Fin 1) j)

theorem lift1_mem (i : Fin 6) (j : S384x128.Idx) : lift1 i j ∈ slab1 i := emb_mem _ _
theorem lift2_mem (i : Fin 6) (j : S192x128.Idx) : lift2 i j ∈ slab2 i := emb_mem _ _

theorem lift1_val (i : Fin 6) (j : S384x128.Idx) :
    (lift1 i j 0).val = half i ∧ (lift1 i j 1).val = (j 0).val ∧ (lift1 i j 2).val = hcol i + (j 1).val :=
  ⟨emb_val (s := S2x384x384) (off := offR i) _ 0, (emb_val (s := S2x384x384) (off := offR i) _ 1).trans (Nat.zero_add _), emb_val (s := S2x384x384) (off := offR i) _ 2⟩
theorem lift2_val (i : Fin 6) (j : S192x128.Idx) :
    (lift2 i j 0).val = half i ∧ (lift2 i j 1).val = (j 0).val ∧ (lift2 i j 2).val = hcol i + (j 1).val :=
  ⟨emb_val (s := S2x192x384) (off := offR i) _ 0, (emb_val (s := S2x192x384) (off := offR i) _ 1).trans (Nat.zero_add _), emb_val (s := S2x192x384) (off := offR i) _ 2⟩

theorem rO_val (i : Fin 6) (c : Dev nD) (j : S384x128.Idx) :
    ((rO i c).emb j 0).val = rowO i c + (j 0).val ∧ ((rO i c).emb j 1).val = col i + (j 1).val := unit_val (offO_eq i c) j
theorem rK_val (i : Fin 6) (c : Dev nD) (j : S384x128.Idx) :
    ((rK i c).emb j 0).val = rowK i c + (j 0).val ∧ ((rK i c).emb j 1).val = col i + (j 1).val := unit_val (offK_eq i c) j
theorem rP_val (i : Fin 6) (c : Dev nD) (j : S192x128.Idx) :
    ((rP i c).emb j 0).val = rowP i c + (j 0).val ∧ ((rP i c).emb j 1).val = col i + (j 1).val := unit_val (offP_eq i c) j
theorem rS_val (i : Fin 6) (c : Dev nD) (j : S192x128.Idx) :
    ((rS i c).emb j 0).val = rowS i c + (j 0).val ∧ ((rS i c).emb j 1).val = col i + (j 1).val := unit_val (offS_eq i c) j

theorem up1_lift (i : Fin 6) (c : Dev nD) (j : S384x128.Idx) : up1 c (lift1 i j) = (rK i c).emb j := by
  have e := slabChunk1_of_mem (lift1_mem i j)
  obtain ⟨l0, l1, l2⟩ := lift1_val i j
  obtain ⟨v0, v1⟩ := rK_val i c j
  have hc := col_num i
  apply idx_ext
  · refine Eq.trans ?_ v0.symm
    show rowK (slabChunk1 (lift1 i j)) c + (lift1 i j 1).val = _
    rw [e, l1]
  · refine Eq.trans ?_ v1.symm
    show 384 * (lift1 i j 0).val + (lift1 i j 2).val = _
    rw [l0, l2]
    omega
theorem up2_lift (i : Fin 6) (c : Dev nD) (j : S192x128.Idx) : up2 c (lift2 i j) = (rS i c).emb j := by
  have e := slabChunk2_of_mem (lift2_mem i j)
  obtain ⟨l0, l1, l2⟩ := lift2_val i j
  obtain ⟨v0, v1⟩ := rS_val i c j
  have hc := col_num i
  apply idx_ext
  · refine Eq.trans ?_ v0.symm
    show rowS (slabChunk2 (lift2 i j)) c + (lift2 i j 1).val = _
    rw [e, l1]
  · refine Eq.trans ?_ v1.symm
    show 384 * (lift2 i j 0).val + (lift2 i j 2).val = _
    rw [l0, l2]
    omega

/-- The rows that a device gives away are, on its partner, the rows kept. -/
theorem rO_emb (i : Fin 6) (c : Dev nD) (j : S384x128.Idx) : (rO i c).emb j = (rK i (tgt 0 i c)).emb j :=
  idx_ext ((rO_val i c j).1.trans ((congrArg (· + (j 0).val) (rowK_tgt i c).symm).trans (rK_val i (tgt 0 i c) j).1.symm))
    ((rO_val i c j).2.trans (rK_val i (tgt 0 i c) j).2.symm)
theorem rP_emb (i : Fin 6) (c : Dev nD) (j : S192x128.Idx) : (rP i c).emb j = (rS i (tgt 1 i c)).emb j :=
  idx_ext ((rP_val i c j).1.trans ((congrArg (· + (j 0).val) (rowS_tgt i c).symm).trans (rS_val i (tgt 1 i c) j).1.symm))
    ((rP_val i c j).2.trans (rS_val i (tgt 1 i c) j).2.symm)

theorem rC_emb_mem (i : Fin 6) (j : S768x128.Idx) : (rC i).emb j ∈ reg 0 768 (col i) :=
  rC_set i ▸ emb_mem _ _
theorem rK_emb_mem (i : Fin 6) (c : Dev nD) (j : S384x128.Idx) : (rK i c).emb j ∈ reg (rowK i c) 384 (col i) :=
  rK_set i c ▸ emb_mem _ _
theorem rS_emb_mem (i : Fin 6) (c : Dev nD) (j : S192x128.Idx) : (rS i c).emb j ∈ reg (rowS i c) 192 (col i) :=
  rS_set i c ▸ emb_mem _ _

theorem of_emb {s : Shape} {r : Rect s} {p : s.Idx → Prop} (h : ∀ j, p (r.emb j)) {S : Finset s.Idx} (hS : r.set = S) : ∀ x ∈ S, p x := by
  intro x hx
  rw [← hS, ← Rect.map_emb_univ] at hx
  obtain ⟨j, -, rfl⟩ := Finset.mem_map.mp hx
  exact h j

/-! ## What each store leaves -/

/-- The chunk's product, stored. -/
theorem store_comp (c : Dev nD) (i : Fin 6) (f : Vec F S768x768 .bf16) :
    ∀ x ∈ reg 0 768 (col i), (gM.access (rC i)).write (Elt F) f (k0_pay2 (A c) (bM.view.readAt (Elt F) (rB i).toLoadRect (B c))) Finset.univ x
      = own A B c x :=
  of_emb (r := rC i) (fun j => by
    refine (View.write_emb_of_mem (v := gM.access (rC i)) (Val := Elt F) f _ (Finset.mem_univ j)).trans ?_
    show k0_pay2 (A c) (cols (B c) i) j = k0_pay2 (A c) (cols (B c) (chunk ((rC i).emb j))) (inChunk ((rC i).emb j))
    rw [chunk_of_mem (rC_emb_mem i j)]
    congr 1
    have hc := col_of i
    have h1 : (j 1).val < 128 := (j 1).isLt
    funext a
    match a with
    | ⟨0, _⟩ =>
      apply Fin.ext
      show (j 0).val = ((rC i).emb j 0).val
      rw [emb_val]
      show (j 0).val = 0 + (j 0).val
      omega
    | ⟨1, _⟩ =>
      apply Fin.ext
      show (j 1).val = ((rC i).emb j 1).val % 128
      rw [emb_val]
      show (j 1).val = (col i + (j 1).val) % 128
      omega) (rC_set i)

/-- The received half added to the kept half, stored. -/
theorem store_red0 (c : Dev nD) (i : Fin 6) (f g : Vec F S768x768 .bf16) (hf : ∀ x ∈ reg (rowK i c) 384 (col i), g x = own A B c x) :
    ∀ x ∈ reg (rowK i c) 384 (col i), (gM.access (rK i c)).write (Elt F) f
        (k0_pay8 (gM.view.readAt (Elt F) (rK i c).toLoadRect g) (r1M.view.readAt (Elt F) (rR1 i).toLoadRect (land1 A B c))) Finset.univ x
      = sum1 A B c x :=
  of_emb (r := rK i c) (fun j => by
    refine (View.write_emb_of_mem (v := gM.access (rK i c)) (Val := Elt F) f _ (Finset.mem_univ j)).trans ?_
    have e : shapeCast S384x128 (r1M.view.readAt (Elt F) (rR1 i).toLoadRect (land1 A B c)) shapeCasts_S1x384x128_S384x128 j
        = land1 A B c (lift1 i j) :=
      shapeCast_dropUnit_apply ![384, 128] _ _ j
    show FloatOps.addf (φ := .bf16) (g ((rK i c).emb _)) (shapeCast S384x128 _ shapeCasts_S1x384x128_S384x128 _) = _
    simp only [Shape.reshapeEquiv_self]
    rw [e, hf _ (rK_emb_mem i c j)]
    unfold sum1 land1
    rw [up1_lift, slabChunk1_of_mem (lift1_mem i j), chunk_of_mem (rK_emb_mem i c j)]) (rK_set i c)

/-- The received quarter added to the owned quarter, stored into the result. -/
theorem store_red1 (c : Dev nD) (i : Fin 6) (f g : Vec F S768x768 .bf16) (hf : ∀ x ∈ reg (rowS i c) 192 (col i), g x = sum1 A B c x) :
    ∀ x ∈ reg (rowS i c) 192 (col i), (oM.access (rS i c)).write (Elt F) f
        (k0_pay14 (gM.view.readAt (Elt F) (rS i c).toLoadRect g) (r2M.view.readAt (Elt F) (rR2 i).toLoadRect (land2 A B c))) Finset.univ x
      = out A B x :=
  of_emb (r := rS i c) (fun j => by
    refine (View.write_emb_of_mem (v := oM.access (rS i c)) (Val := Elt F) f _ (Finset.mem_univ j)).trans ?_
    have e : shapeCast S192x128 (r2M.view.readAt (Elt F) (rR2 i).toLoadRect (land2 A B c)) shapeCasts_S1x192x128_S192x128 j
        = land2 A B c (lift2 i j) :=
      shapeCast_dropUnit_apply ![192, 128] _ _ j
    show FloatOps.addf (φ := .bf16) (g ((rS i c).emb j)) (shapeCast S192x128 _ shapeCasts_S1x192x128_S192x128 j) = _
    rw [e, hf _ (rS_emb_mem i c j), out_of_mem A B (rS_emb_mem i c j)]
    unfold sum2 land2
    rw [up2_lift, slabChunk2_of_mem (lift2_mem i j), chunk_of_mem (rS_emb_mem i c j)]) (rS_set i c)

/-! ## What each transfer leaves -/

theorem d1_emb (i : Fin 6) (j : S384x128.Idx) : (d1 i).view.emb j = lift1 i j :=
  congrArg (rR1 i).emb (Shape.reshapeEquiv_cons_one (d := ![384, 128]) _ j)
theorem d2_emb (i : Fin 6) (j : S192x128.Idx) : (d2 i).view.emb j = lift2 i j :=
  congrArg (rR2 i).emb (Shape.reshapeEquiv_cons_one (d := ![192, 128]) _ j)

theorem of_view {sp : Space} {s : Shape} {e : EltTy} {v : View sig .tc sp s e} {p : v.ty.Idx → Prop} (h : ∀ j, p (v.emb j)) {S : Finset v.ty.Idx} (hS : v.set = S) : ∀ x ∈ S, p x := by
  intro x hx
  rw [← hS] at hx
  obtain ⟨j, -, rfl⟩ := Finset.mem_map.mp hx
  exact h j

theorem land_send0 (c : Dev nD) (i : Fin 6) (f : Vec F S2x384x384 .bf16) :
    ∀ y ∈ slab1 i, (d1 i).view.write (Elt F) f ((gO i c).view.read (Elt F) (own A B c)) Finset.univ y = land1 A B (tgt 0 i c) y :=
  of_view (v := (d1 i).view) (fun j => by
    refine (View.write_emb_of_mem (v := (d1 i).view) (Val := Elt F) f _ (Finset.mem_univ j)).trans ?_
    show own A B c ((rO i c).emb j) = _
    rw [d1_emb]
    unfold land1
    rw [up1_lift, slabChunk1_of_mem (lift1_mem i j), tgt_tgt, rO_emb]) (d1_set i)

theorem land_send1 (c : Dev nD) (i : Fin 6) (f : Vec F S2x192x384 .bf16) :
    ∀ y ∈ slab2 i, (d2 i).view.write (Elt F) f ((gP i c).view.read (Elt F) (sum1 A B c)) Finset.univ y = land2 A B (tgt 1 i c) y :=
  of_view (v := (d2 i).view) (fun j => by
    refine (View.write_emb_of_mem (v := (d2 i).view) (Val := Elt F) f _ (Finset.mem_univ j)).trans ?_
    show sum1 A B c ((rP i c).emb j) = _
    rw [d2_emb]
    unfold land2
    rw [up2_lift, slabChunk2_of_mem (lift2_mem i j), tgt_tgt, rP_emb]) (d2_set i)

theorem land_send2 (c : Dev nD) (i : Fin 6) (f g : Vec F S768x768 .bf16) :
    ∀ x ∈ reg (rowS i c) 192 (col i), (oS i c).view.write (Elt F) f ((oS i c).view.read (Elt F) g) Finset.univ x = g x :=
  of_view (v := (oS i c).view) (fun j => View.write_emb_of_mem (v := (oS i c).view) (Val := Elt F) f _ (Finset.mem_univ j)) (oS_set i c)

theorem land_send3 (c : Dev nD) (i : Fin 6) (f g : Vec F S768x768 .bf16) :
    ∀ x ∈ reg (rowK i c) 384 (col i), (oK i c).view.write (Elt F) f ((oK i c).view.read (Elt F) g) Finset.univ x = g x :=
  of_view (v := (oK i c).view) (fun j => View.write_emb_of_mem (v := (oK i c).view) (Val := Elt F) f _ (Finset.mem_univ j)) (oK_set i c)

end Cert.AllReduce

end
-- ==== Proof.Protocol.lean ====
/-
# The cross-device protocol

Every device signals its two neighbours on the barrier semaphore, handing each of them the places in its own
buffers that this neighbour's transfers will land in; after its barrier wait a device therefore holds the
destinations of all its twenty-four transfers. Each transfer has a send cell on its own device, which hands the
source back, and a receive cell on the target, which hands over the landed region with its contents. Every cell
has one round.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A transfer: its stage and its chunk; and one of its two cells (`true` the receive cell). -/
abbrev Xfer : Type := Fin 4 × Fin 6
abbrev Key : Type := Bool × Xfer

def xsem : Key → DmaSem sig
  | (false, p) => sendSem p.1 p.2
  | (true, p) => recvSem p.1 p.2

abbrev osem (k : Key) : SemLoc sig := .dma (xsem k)
/-- All of a device's cells: the barrier's and the transfers'. -/
abbrev csem : Option Key → SemLoc sig
  | none => .reg barS
  | some k => osem k

theorem osem_injective : Function.Injective osem := by
  have h : ∀ k k' : Key, osem k = osem k' → k = k' := by decide +kernel
  exact fun k k' => h k k'
theorem csem_injective : Function.Injective csem := by
  rintro (_ | k) (_ | k') h
  · rfl
  · cases h
  · cases h
  · exact congrArg some (osem_injective h)

abbrev kcell (ck : Dev nD × Option Key) : GSem nD τ sig := ((ck.1 : Thread nD τ), csem ck.2)
abbrev barCell (c : Dev nD) : GSem nD τ sig := ((c : Thread nD τ), .reg barS)
abbrev xcell (c : Dev nD) (k : Key) : GSem nD τ sig := ((c : Thread nD τ), osem k)
abbrev scell (c : Dev nD) (p : Xfer) : GSem nD τ sig := ((c : Thread nD τ), .dma (sendSem p.1 p.2))
abbrev rcell (c : Dev nD) (p : Xfer) : GSem nD τ sig := ((c : Thread nD τ), .dma (recvSem p.1 p.2))

/-- Which cell a semaphore is. -/
def keyOf (sm : SemLoc sig) : Option Key := open Classical in if h : ∃ k, sm = osem k then some h.choose else none
theorem keyOf_osem (k : Key) : keyOf (osem k) = some k := by
  have h : ∃ k', osem k = osem k' := ⟨k, rfl⟩
  unfold keyOf
  rw [dif_pos h]
  exact congrArg some (osem_injective h.choose_spec).symm
theorem keyOf_send (p : Xfer) : keyOf (.dma (sendSem p.1 p.2)) = some (false, p) := keyOf_osem (false, p)
theorem keyOf_recv (p : Xfer) : keyOf (.dma (recvSem p.1 p.2)) = some (true, p) := keyOf_osem (true, p)
theorem keyOf_bar : keyOf (.reg barS) = none := by
  unfold keyOf
  rw [dif_neg]
  rintro ⟨k, h⟩
  cases h

/-- What a transfer credits its cells. -/
def N (s : Fin 4) : ℕ := if s = 0 ∨ s = 3 then (d1 0).view.dmaCredit else (d2 0).view.dmaCredit
theorem N_pos (s : Fin 4) : 0 < N s := by
  unfold N
  split
  · exact View.dmaCredit_pos _ (by decide)
  · exact View.dmaCredit_pos _ (by decide)

/-! ## What the transfers carry -/

abbrev gL (c : Dev nD) : Loc nD τ sig := (c : Thread nD τ).loc cc0_scratch0
abbrev oL (c : Dev nD) : Loc nD τ sig := (c : Thread nD τ).loc cc0_stg2_0
abbrev r1L (c : Dev nD) : Loc nD τ sig := (c : Thread nD τ).loc cc0_scratch1
abbrev r2L (c : Dev nD) : Loc nD τ sig := (c : Thread nD τ).loc cc0_scratch2

/-- Where transfer `p`'s data lands on device `c`, holding anything. -/
def slot (c : Dev nD) : Xfer → sProp 𝕄
  | (0, i) => iprop(∃ f : Buf (Elt F) (r1L c), r1L c ↦[slab1 i]{fullShare} f)
  | (1, i) => iprop(∃ f : Buf (Elt F) (r2L c), r2L c ↦[slab2 i]{fullShare} f)
  | (2, i) => iprop(∃ f : Buf (Elt F) (oL c), oL c ↦[reg (rowP i c) 192 (col i)]{fullShare} f)
  | (3, i) => iprop(∃ f : Buf (Elt F) (oL c), oL c ↦[reg (rowO i c) 384 (col i)]{fullShare} f)

variable (A : Dev nD → Vec F S768x384 .bf16) (B : Dev nD → Vec F S384x768 .bf16)

/-- What device `c` lends transfer `p`, and gets back. -/
def lent (c : Dev nD) : Xfer → sProp 𝕄
  | (0, i) => (gL c ↦[reg (rowO i c) 384 (col i)]{fullShare} (own A B c : Buf (Elt F) (gL c)))
  | (1, i) => (gL c ↦[reg (rowP i c) 192 (col i)]{fullShare} (sum1 A B c : Buf (Elt F) (gL c)))
  | (2, i) => (oL c ↦[reg (rowS i c) 192 (col i)]{fullShare.left} (out A B : Buf (Elt F) (oL c)))
  | (3, i) => (oL c ↦[reg (rowK i c) 384 (col i)]{fullShare.right} (out A B : Buf (Elt F) (oL c)))

/-- What transfer `p` leaves on device `c`. -/
def landed (c : Dev nD) : Xfer → sProp 𝕄
  | (0, i) => (r1L c ↦[slab1 i]{fullShare} (land1 A B c : Buf (Elt F) (r1L c)))
  | (1, i) => (r2L c ↦[slab2 i]{fullShare} (land2 A B c : Buf (Elt F) (r2L c)))
  | (2, i) => (oL c ↦[reg (rowP i c) 192 (col i)]{fullShare} (out A B : Buf (Elt F) (oL c)))
  | (3, i) => (oL c ↦[reg (rowO i c) 384 (col i)]{fullShare} (out A B : Buf (Elt F) (oL c)))

omit [FloatOps F] in
instance slot_storable (c : Dev nD) (p : Xfer) : BI.Storable (upEmb : UEmb _ 𝕄) (slot (F := F) c p) := by
  obtain ⟨s, i⟩ := p
  fin_cases s <;> (simp only [slot]; infer_instance)
instance lent_storable (c : Dev nD) (p : Xfer) : BI.Storable (upEmb : UEmb _ 𝕄) (lent (F := F) A B c p) := by
  obtain ⟨s, i⟩ := p
  fin_cases s <;> (simp only [lent]; infer_instance)
instance landed_storable (c : Dev nD) (p : Xfer) : BI.Storable (upEmb : UEmb _ 𝕄) (landed (F := F) A B c p) := by
  obtain ⟨s, i⟩ := p
  fin_cases s <;> (simp only [landed]; infer_instance)

/-- What neighbour `d`'s barrier signal hands device `c`: the destinations, on that neighbour, of `c`'s transfers to it. -/
def barPay (d : Fin 2) (c : Dev nD) : sProp 𝕄 :=
  bigSep Finset.univ fun p : Xfer => if side p.1 p.2 = d then slot (tgt p.1 p.2 c) p else iprop(emp)

omit [FloatOps F] in
instance barPay_storable (d : Fin 2) (c : Dev nD) : BI.Storable (upEmb : UEmb _ 𝕄) (barPay (F := F) d c) := by
  unfold barPay
  have h (p : Xfer) : BI.Storable (upEmb : UEmb _ 𝕄) (if side p.1 p.2 = d then slot (F := F) (tgt p.1 p.2 c) p else iprop(emp)) := by
    split <;> infer_instance
  infer_instance

/-! ## The schedule -/

def xPay (c : Dev nD) : Key → sProp 𝕄
  | (false, p) => lent A B c p
  | (true, p) => landed A B c p

instance xPay_storable (c : Dev nD) (k : Key) : BI.Storable (upEmb : UEmb _ 𝕄) (xPay (F := F) A B c k) := by
  obtain ⟨b, p⟩ := k
  cases b <;> (simp only [xPay]; infer_instance)

/-- One round, round 0: the barrier cell has two duties of one unit, a transfer's cell one of the transfer's credit. -/
def Rd : Rounds.Schedule (GSem nD τ sig) (Fin 2) 𝕄 where
  duties g r := if r = 0 ∧ g.1.2 = .tc then (if g.2 = .reg barS then Finset.univ else if (keyOf g.2).isSome then {0} else ∅) else ∅
  unitless _ := False
  amount g _ _ := match keyOf g.2 with
    | none => 1
    | some k => N k.2.1
  payload g _ d := match keyOf g.2 with
    | none => barPay d g.1.1
    | some k => xPay A B g.1.1 k
  amount_pos g _ _ _ := by
    split
    · exact Nat.one_pos
    · exact N_pos _

instance Rd_payload_storable (g : GSem nD τ sig) (r : ℕ) (d : Fin 2) :
    BI.Storable (upEmb : UEmb _ 𝕄) ((Rd (F := F) A B).payload g r d) := by
  dsimp only [Rd]
  split <;> infer_instance

section Sched
variable (c : Dev nD) (k : Key) (p : Xfer) (d : Fin 2)

theorem duties_bar : (Rd (F := F) A B).duties (barCell c) 0 = Finset.univ := by
  dsimp only [Rd]; rw [if_pos ⟨rfl, rfl⟩, if_pos rfl]
theorem duties_x : (Rd (F := F) A B).duties (xcell c k) 0 = {0} := by
  dsimp only [Rd]; rw [if_pos ⟨rfl, rfl⟩, if_neg (fun h => by cases h), keyOf_osem]; rfl
theorem duties_later (g : GSem nD τ sig) : ∀ r, 1 ≤ r → (Rd (F := F) A B).duties g r = ∅ :=
  fun r hr => by dsimp only [Rd]; rw [if_neg fun h => by omega]
theorem amount_bar : (Rd (F := F) A B).amount (barCell c) 0 d = 1 := by
  dsimp only [Rd]; rw [keyOf_bar]
theorem amount_x : (Rd (F := F) A B).amount (xcell c k) 0 d = N k.2.1 := by
  dsimp only [Rd]; rw [keyOf_osem]
theorem expect_bar : (Rd (F := F) A B).expect (barCell c) 0 = 2 := by
  unfold Schedule.expect Schedule.amountOf
  rw [duties_bar, Finset.sum_congr rfl fun d _ => amount_bar A B c d, Finset.sum_const, Finset.card_univ, Fintype.card_fin, smul_eq_mul]
theorem expect_x : (Rd (F := F) A B).expect (xcell c k) 0 = N k.2.1 := by
  unfold Schedule.expect Schedule.amountOf; rw [duties_x, Finset.sum_singleton, amount_x]
theorem payload_bar : (Rd (F := F) A B).payload (barCell c) 0 d = barPay d c := by
  dsimp only [Rd]; rw [keyOf_bar]
theorem payload_x : (Rd (F := F) A B).payload (xcell c k) 0 d = xPay A B c k := by
  dsimp only [Rd]; rw [keyOf_osem]
/-- What the barrier wait hands over. -/
theorem rest_bar : bigSep ((Rd (F := F) A B).duties (barCell c) 0 \ ∅) (fun d => (Rd (F := F) A B).payload (barCell c) 0 d)
    = iprop(barPay 0 c ∗ barPay 1 c) := by
  rw [Finset.sdiff_empty, duties_bar, bigSep_fin_two, payload_bar, payload_bar]
  rfl
/-- What a transfer's wait hands over. -/
theorem rest_x : bigSep ((Rd (F := F) A B).duties (xcell c k) 0 \ ∅) (fun d => (Rd (F := F) A B).payload (xcell c k) 0 d) = xPay A B c k := by
  rw [Finset.sdiff_empty, duties_x, bigSep_singleton, payload_x]

end Sched

omit [FloatOps F] in
/-- Both neighbours' barrier payloads are the destinations of all transfers. -/
theorem barPay_both (c : Dev nD) :
    (iprop(barPay 0 c ∗ barPay 1 c) : sProp 𝕄) = bigSep Finset.univ fun p : Xfer => slot (tgt p.1 p.2 c) p := by
  unfold barPay
  refine (bigSep_sep _ _ _).symm.trans (bigSep_congr fun p _ => ?_)
  rcases (show side p.1 p.2 = 0 ∨ side p.1 p.2 = 1 by omega) with h | h
  · rw [h, if_pos rfl, if_neg (by decide)]
    exact equiv_iff.mp sep_emp
  · rw [h, if_neg (by decide), if_pos rfl]
    exact equiv_iff.mp emp_sep

omit [FloatOps F] in
/-- A device's own landing places are what its two signals hand over. -/
theorem barPay_own (c : Dev nD) :
    (bigSep Finset.univ fun p : Xfer => slot c p : sProp 𝕄) = iprop(barPay 0 (nb 0 c) ∗ barPay 1 (nb 1 c)) := by
  unfold barPay
  refine Eq.trans (bigSep_congr fun p _ => ?_) (bigSep_sep _ _ _)
  rcases (show side p.1 p.2 = 0 ∨ side p.1 p.2 = 1 by omega) with h | h
  · rw [tgt_eq_nb, h, nb_nb, if_pos rfl, if_neg (by decide)]
    exact (equiv_iff.mp sep_emp).symm
  · rw [tgt_eq_nb, tgt_eq_nb, h, nb_nb, if_neg (by decide), if_pos rfl]
    exact (equiv_iff.mp emp_sep).symm

/-! ## Debts and levels -/

/-- The transfers in the order the program starts them. -/
def order : List Xfer := (List.finRange 4).flatMap fun s => (List.finRange 6).map fun i => (s, i)

/-- What device `c` owes while the transfers `l` are still to be started. -/
def owed (c : Dev nD) : List Xfer → CellTallies nD τ sig Unit
  | [] => 0
  | p :: l => owed c l + tallyAt (rcell (tgt p.1 p.2 c) p) () (N p.1)

def O₁ (c : Dev nD) : CellTallies nD τ sig Unit := owed c order + tallyAt (barCell (nb 1 c)) () 1
def O₀ (c : Dev nD) : CellTallies nD τ sig Unit := O₁ c + tallyAt (barCell (nb 0 c)) () 1

def L (g : GSem nD τ sig) : Finset Unit := if g.1.2 = .tc then {()} else ∅
/-- Barrier cells at 1, stage `s`'s receive cells at `2 + s`, everything else at 0. -/
def lv (g : GSem nD τ sig) (_ : Unit) : ℕ :=
  if g.2 = .reg barS then 1 else match keyOf g.2 with
    | some (true, p) => 2 + p.1.val
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (p : Xfer) (u : Unit) : lv (rcell c p) u = 2 + p.1.val := by
  unfold lv; rw [if_neg (fun h => by cases h), keyOf_recv]

theorem tally_pos {g g' : GSem nD τ sig} {u u' : Unit} {n : ℕ} (h : 0 < (tallyAt g u n : CellTallies nD τ sig Unit) g' u') : g' = g := by
  rw [tallyAt_apply] at h
  by_contra hn
  rw [if_neg (fun h' => hn h'.1)] at h
  exact Nat.lt_irrefl 0 h

theorem owed_pos {c : Dev nD} {l : List Xfer} {g : GSem nD τ sig} {u : Unit} (h : 0 < owed c l g u) :
    ∃ p ∈ l, g = rcell (tgt p.1 p.2 c) p := by
  induction l with
  | nil => exact absurd h (Nat.lt_irrefl 0)
  | cons p l ih =>
    unfold owed at h
    rw [Pi.add_apply, Finsupp.add_apply] at h
    rcases Nat.eq_zero_or_pos (owed c l g u) with h0 | h0
    · rw [h0, Nat.zero_add] at h
      exact ⟨p, List.mem_cons_self, tally_pos h⟩
    · obtain ⟨p', hp', hg⟩ := ih h0
      exact ⟨p', List.mem_cons_of_mem _ hp', hg⟩

theorem O₀_pos {c : Dev nD} {g : GSem nD τ sig} {u : Unit} (h : 0 < O₀ c g u) :
    (∃ p, g = rcell (tgt p.1 p.2 c) p) ∨ ∃ d, g = barCell (nb d c) := by
  unfold O₀ O₁ at h
  rw [Pi.add_apply, Finsupp.add_apply, Pi.add_apply, Finsupp.add_apply] at h
  rcases Nat.eq_zero_or_pos (owed c order g u) with h0 | h0
  · rcases Nat.eq_zero_or_pos ((tallyAt (barCell (nb 1 c)) () 1 : CellTallies nD τ sig Unit) g u) with h1 | h1
    · rw [h0, h1] at h
      exact .inr ⟨0, tally_pos (by simpa using h)⟩
    · exact .inr ⟨1, tally_pos h1⟩
  · obtain ⟨p, -, hg⟩ := owed_pos h0
    exact .inl ⟨p, hg⟩

omit [FloatOps F] in
/-- A wait at a level below those of the transfers still owed. -/
theorem mayWait_owed (c : Dev nD) (sm : SemLoc sig) (a : ℕ) (hsm : ∀ u, lv ((c : Thread nD τ), sm) u = a) (l : List Xfer)
    (hl : ∀ p ∈ l, a < 2 + p.1.val) : (levAts L lv : sProp 𝕄) ⊢ MayWait (c : Thread nD τ) sm () (owed c l) :=
  MayOwe.of_cut (L := L) (lev := lv) a (fun p hp => by rw [Finset.mem_singleton.mp hp, L_tc]; exact Finset.mem_singleton_self _)
    (fun g u hg => by obtain ⟨p, -, rfl⟩ := owed_pos hg; exact Finset.mem_singleton_self _)
    (fun p hp => by rw [Finset.mem_singleton.mp hp]; exact (hsm _).le)
    (fun g u hg => by obtain ⟨p, hp, rfl⟩ := owed_pos hg; rw [lv_recv]; exact hl p hp)

omit [FloatOps F] in
/-- A wait at level 0 is below everything owed at launch. -/
theorem mayWait_stage (c : Dev nD) (q : DmaSem sig) (hq : ∀ u, lv ((c : Thread nD τ), .dma q) u = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, rfl⟩ | ⟨d, rfl⟩ <;> exact Finset.mem_singleton_self _)
      (fun p hp => by rw [Finset.mem_singleton.mp hp]; exact (hq _).le)
      (fun g u hg => by
        rcases O₀_pos hg with ⟨p, rfl⟩ | ⟨d, rfl⟩
        · rw [lv_recv]; omega
        · rw [lv_bar]; exact Nat.one_pos)
  · rw [MayWait_zero]; iintro -; iempintro

/-! ## Ghost state -/

/-- The invariants of all cells, and that round 0 of each is reached. -/
def records (K : Dev nD × Option Key → ℕ) : sProp 𝕄 :=
  iprop((bigSep Finset.univ fun ck : Dev nD × Option Key => cellInv ER (Rd A B) (K ck) (kcell ck))
    ∗ (bigSep Finset.univ fun ck : Dev nD × Option Key => reached ER (kcell ck) 0) ∗ levAts L lv)

instance records_persistent (K : Dev nD × Option Key → ℕ) : BI.Persistent (records A B K) := by unfold records; infer_instance

theorem records_inv (K : Dev nD × Option Key → ℕ) (ck : Dev nD × Option Key) : records A B K ⊢ cellInv ER (Rd A B) (K ck) (kcell ck) := by
  have h : (bigSep Finset.univ fun ck : Dev nD × Option Key => (cellInv ER (Rd A B) (K ck) (kcell ck) : sProp 𝕄)) ⊢ cellInv ER (Rd A B) (K ck) (kcell ck) :=
    bigSep_elim (Finset.mem_univ ck)
  unfold records
  iintro ⟨H, -⟩
  iapply h $$ H
theorem records_reached (K : Dev nD × Option Key → ℕ) (ck : Dev nD × Option Key) : records A B K ⊢ reached ER (kcell ck) 0 := by
  have h : (bigSep Finset.univ fun ck : Dev nD × Option Key => (reached ER (kcell ck) 0 : sProp 𝕄)) ⊢ reached ER (kcell ck) 0 :=
    bigSep_elim (Finset.mem_univ ck)
  unfold records
  iintro ⟨-, H, -⟩
  iapply h $$ H
theorem records_levs (K : Dev nD × Option Key → ℕ) : records A B K ⊢ levAts L lv := by
  unfold records
  iintro ⟨-, -, H⟩
  iexact H

end Cert.AllReduce

end
-- ==== Proof.Steps.lean ====
/-
# One transfer, one wait, one block of arithmetic

The rules of the program's pieces: `Runs c Pre p Post` says that the piece `p`, run on device `c` from `Pre`,
ends in `Post`.
-/
module

public import proofs.«01_k».proof.Proof.Protocol

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## Pieces of program -/

/-- The piece `p` on device `c` goes from `Pre` to `Post`. -/
def Runs (c : Dev nD) (Pre : sProp 𝕄) (p : P F PUnit) (Post : sProp 𝕄) : Prop :=
  ∀ Kt : PUnit → sProp 𝕄, iprop(Pre ∗ (Post -∗ Kt ⟨⟩)) ⊢ wp frame (wpE (defs₀ (F := F)) 𝒱₀ (c : Thread nD τ) none) Set.univ p Kt

theorem Runs.conseq {c : Dev nD} {Pre Pre' Post Post' : sProp 𝕄} {p : P F PUnit} (h : Runs c Pre p Post) (h₁ : Pre' ⊢ Pre) (h₂ : Post ⊢ Post') :
    Runs c Pre' p Post' := fun Kt => by
  iintro ⟨H, Hk⟩
  iapply (h Kt)
  isplitl [H]
  · iapply h₁ $$ H
  · iintro H
    iapply Hk
    iapply h₂ $$ H

theorem Runs.frame {c : Dev nD} {Pre Post : sProp 𝕄} {p : P F PUnit} (h : Runs c Pre p Post) (R : sProp 𝕄) :
    Runs c iprop(Pre ∗ R) p iprop(Post ∗ R) := fun Kt => by
  iintro ⟨⟨H, HR⟩, Hk⟩
  iapply (h Kt)
  isplitl [H]
  · iexact H
  · iintro H
    iapply Hk
    isplitl [H] <;> iassumption

theorem Runs.bind {c : Dev nD} {Pre Mid Post : sProp 𝕄} {p q : P F PUnit} (h : Runs c Pre p Mid) (h' : Runs c Mid q Post) :
    Runs c Pre (do p; q) Post := fun Kt => by
  rw [wp_bind]
  iintro ⟨H, Hk⟩
  iapply (h _)
  isplitl [H]
  · iexact H
  · iintro H
    iapply (h' Kt)
    isplitl [H] <;> iassumption

omit [FloatOps F] in
theorem listSep_cons {α : Type} (a : α) (l : List α) (f : α → sProp 𝕄) : bigSepL (a :: l) f = iprop(f a ∗ bigSepL l f) := bigSepL_cons ..

/-- A loop: each trip takes its element from `pre` to `post`, carrying `I` along. -/
theorem Runs.each {c : Dev nD} {α : Type} {f : α → P F PUnit} {pre post : α → sProp 𝕄} {R : sProp 𝕄} [BI.Persistent R] {I : List α → sProp 𝕄}
    (l : List α)
    (h : ∀ a l, Runs c iprop(R ∗ pre a ∗ I (a :: l)) (f a) iprop(post a ∗ I l)) :
    Runs c iprop(R ∗ bigSepL l pre ∗ I l) (each f l) iprop(bigSepL l post ∗ I []) := by
  induction l with
  | nil =>
    intro Kt
    unfold AllReduce.each
    rw [Prog.pure_eq_ret, wp_ret]
    iintro ⟨⟨-, H, HI⟩, Hk⟩
    imodintro
    iapply Hk
    isplitl [H]
    · iexact H
    · iexact HI
  | cons a l ih =>
    unfold AllReduce.each
    intro Kt
    rw [wp_bind, listSep_cons, listSep_cons]
    iintro ⟨⟨#HR, ⟨Ha, Hl⟩, HI⟩, Hk⟩
    iapply (h a l _)
    isplitl [Ha HI]
    · isplitr; · iexact HR
      isplitl [Ha] <;> iassumption
    iintro ⟨Ha, HI⟩
    iapply (ih _)
    isplitl [Hl HI]
    · isplitr; · iexact HR
      isplitl [Hl] <;> iassumption
    iintro ⟨Hl, HI⟩
    iapply Hk
    isplitl [Ha Hl]
    · isplitl [Ha] <;> iassumption
    · iexact HI

/-! ## A transfer's resources, from before it to after both its waits -/

variable (A : Dev nD → Vec F S768x384 .bf16) (B : Dev nD → Vec F S384x768 .bf16)

/-- The debts of the transfers `l` still to be started. -/
def Owing (c : Dev nD) (l : List Xfer) : sProp 𝕄 := iprop(∃ W, owes (c : Thread nD τ) (owed c l) W)

/-- What a device holds of a transfer at the start: both cells' positions and duty tokens, and the receive cell's credit. -/
def toks (c : Dev nD) (p : Xfer) : sProp 𝕄 :=
  iprop(atPos ER (scell c p) 0 ∅ 0 ∗ atPos ER (rcell c p) 0 ∅ 0 ∗ dutyTok ER (scell c p) 0 0 ∗ dutyTok ER (rcell (tgt p.1 p.2 c) p) 0 0
    ∗ cred (tallyAt (rcell c p) () (N p.1)))
/-- With the destination: the transfer can start. -/
def ready (c : Dev nD) (p : Xfer) : sProp 𝕄 := iprop(toks c p ∗ slot (tgt p.1 p.2 c) p)
/-- It has started, -/
def flying (c : Dev nD) (p : Xfer) : sProp 𝕄 :=
  iprop(atPos ER (scell c p) 0 ∅ 0 ∗ atPos ER (rcell c p) 0 ∅ 0 ∗ cred (tallyAt (scell c p) () (N p.1)) ∗ cred (tallyAt (rcell c p) () (N p.1)))
/-- the partner's has arrived, -/
def arrived (c : Dev nD) (p : Xfer) : sProp 𝕄 :=
  iprop(atPos ER (scell c p) 0 ∅ 0 ∗ cred (tallyAt (scell c p) () (N p.1)) ∗ semVal (rcell c p) 0)
/-- and its own has left. -/
def closed (c : Dev nD) (p : Xfer) : sProp 𝕄 := iprop(semVal (scell c p) 0 ∗ semVal (rcell c p) 0)

variable (K : Dev nD × Option Key → ℕ)

/-- Starting a transfer, from its source, its destination and what lands. -/
theorem runs_send (c : Dev nD) (p : Xfer) (l : List Xfer) {s : Shape} {src dst : Memref sig .tc .vmem s .bf16}
    (hN : dst.view.dmaCredit = N p.1) (q : PosShare TreeShare) (fs : Buf (Elt F) (src.view.loc (c : Thread nD τ)))
    (h₁ : lent A B c p = (src.view.loc (c : Thread nD τ) ↦[src.view.set]{q} fs))
    (h₂ : slot (tgt p.1 p.2 c) p ⊢ iprop(∃ fd : Buf (Elt F) (dst.view.loc (tgt p.1 p.2 c : Thread nD τ)), dst.view.loc (tgt p.1 p.2 c : Thread nD τ) ↦[dst.view.set]{fullShare} fd))
    (h₃ : ∀ fd : Buf (Elt F) (dst.view.loc (tgt p.1 p.2 c : Thread nD τ)),
      (dst.view.loc (tgt p.1 p.2 c : Thread nD τ) ↦[dst.view.set]{fullShare} (dst.view.write (Elt F) fd (src.view.read (Elt F) fs) Finset.univ)) ⊢ landed A B (tgt p.1 p.2 c) p)
    {hsc : (dst : Memref sig (Dev.tc (tgt p.1 p.2 c) : Thread nD τ).2.kind .vmem s .bf16).view.ref.isScScratch = false}
    {hsrc : src.view.WordExact} {hdst : dst.view.WordExact}
    {hsem : DmaTarget.Typed .vmem (.dma (recvSem p.1 p.2)) (.remote (Dev.tc (tgt p.1 p.2 c) : Thread nD τ) dst (.dma (sendSem p.1 p.2)) hsc)} :
    Runs c iprop(records A B K ∗ (lent A B c p ∗ ready c p) ∗ Owing c (p :: l))
      (Prog.lift (.enqueueDma src (.remote (Dev.tc (tgt p.1 p.2 c) : Thread nD τ) dst (.dma (sendSem p.1 p.2)) hsc) (.dma (recvSem p.1 p.2)) hsrc hdst hsem))
      iprop(flying c p ∗ Owing c l) := fun Kt => by
  unfold ready toks flying Owing
  iintro ⟨⟨#HR, ⟨Hl, ⟨⟨Has, Har, Hts, Htr, Hcr⟩, Hslot⟩⟩, ⟨%W, HO⟩⟩, Hk⟩
  ihave Hs := h₂ $$ Hslot
  icases Hs with ⟨%fd, Hd⟩
  ihave Hl' := (Entails.of_eq h₁) $$ Hl
  ihave #HIs := (records_inv A B K (c, some (false, p))) $$ HR
  ihave #HIr := (records_inv A B K (tgt p.1 p.2 c, some (true, p))) $$ HR
  ihave #Hrs := (records_reached A B K (c, some (false, p))) $$ HR
  ihave #Hrr := (records_reached A B K (tgt p.1 p.2 c, some (true, p))) $$ HR
  simp only [Prog.lift]
  iapply (Rounds.wp_send_pointsTo 𝒱₀ ER (Rd A B) (c : Thread nD τ) none (κ₁ := K (c, some (false, p))) (κ₂ := K (tgt p.1 p.2 c, some (true, p)))
    (r₁ := 0) (r₂ := 0) (d₁ := 0) (d₂ := 0) (fd := fd) (fs := fs) (q := q)
    ((duties_x A B c (false, p)).symm ▸ Finset.mem_singleton_self _)
    ((duties_x A B (tgt p.1 p.2 c) (true, p)).symm ▸ Finset.mem_singleton_self _)
    () () (N p.1) (show dst.view.amount (.dma (recvSem p.1 p.2)) = N p.1 from hN) (amount_x A B c (false, p) 0) (amount_x A B (tgt p.1 p.2 c) (true, p) 0) (owed c l) rfl (W := W)
    (Entails.of_eq (h₁.symm.trans (payload_x A B c (false, p) 0).symm))
    ((h₃ fd).trans (Entails.of_eq (payload_x A B (tgt p.1 p.2 c) (true, p) 0).symm))) $$ [Hl' Hd HO Hts Htr]
  · isplitr; · iexact HIs
    isplitr; · iexact HIr
    isplitl [Hl']; · iexact Hl'
    isplitl [Hd]; · iexact Hd
    isplitl [HO]; · iexact HO
    isplitl [Hts]; · iexact Hts
    isplitr; · iexact Hrs
    isplitl [Htr]; · iexact Htr
    iexact Hrr
  iintro ⟨Hcs, HO⟩
  rw [wp_ret]
  imodintro
  iapply Hk
  isplitr [HO]
  · isplitl [Has]; · iexact Has
    isplitl [Har]; · iexact Har
    isplitl [Hcs]
    · iexact Hcs
    · iexact Hcr
  · iexists W
    iexact HO

/-- A wait on a transfer's cell: its payload, and the cell's counter at zero. -/
theorem runs_wait (c : Dev nD) (k : Key) (l : List Xfer) (hlv : (levAts L lv : sProp 𝕄) ⊢ MayWait (c : Thread nD τ) (osem k) () (owed c l))
    {s : Shape} {src dst : Memref sig .tc .vmem s .bf16} (hN : dst.view.dmaCredit = N k.2.1) {hsrc : src.view.WordExact} {hdst : dst.view.WordExact} :
    Runs c iprop(records A B K ∗ (atPos ER (xcell c k) 0 ∅ 0 ∗ cred (tallyAt (xcell c k) () (N k.2.1))) ∗ Owing c l)
      (Prog.lift (.waitDma2 (xsem k) src dst hsrc hdst))
      iprop((semVal (xcell c k) 0 ∗ xPay A B c k) ∗ Owing c l) := fun Kt => by
  unfold Owing
  iintro ⟨⟨#HR, ⟨Hat, Hc⟩, ⟨%W, HO⟩⟩, Hk⟩
  ihave #HI := (records_inv A B K (c, some k)) $$ HR
  ihave #Hlev := (records_levs A B K) $$ HR
  simp only [Prog.lift]
  iapply (Rounds.wp_wait_rest_token 𝒱₀ ER (Rd A B) (c : Thread nD τ) none (κ := K (c, some k))
      (wpE_waitDma2_eq 𝒱₀ (c : Thread nD τ) none Set.univ) (Set.mem_univ _) () (O := owed c l) (W := W) (R := 0) (m := 0) (T := ∅)
      (by rw [Nat.zero_add, hN]; exact (expect_x A B c k).symm)) $$ [Hc HO Hat]
  · isplitr; · iexact HI
    isplitl [Hc]; · rw [hN]; iexact Hc
    isplitl [HO]; · iexact HO
    isplitr; · iapply hlv; iexact Hlev
    iexact Hat
  iintro ⟨HO, Hat, -, Hpay⟩
  ihave Hp := (Entails.of_eq (rest_x A B c k)) $$ Hpay
  imod (Rounds.cell_close ER (Rd A B) (Set.mem_univ (K (c, some k))) (fun h => h) (R := 0 + 1) (duties_later A B (xcell c k))) $$ [Hat] with Hz
  · isplitr; · iexact HI
    iexact Hat
  rw [wp_ret]
  imodintro
  iapply Hk
  isplitr [HO]
  · isplitl [Hz] <;> iassumption
  · iexists (insert (osem k, ()) W)
    iexact HO

/-- The wait for the partner's data. -/
theorem runs_recv (c : Dev nD) (p : Xfer) (l : List Xfer) (hl : ∀ p' ∈ l, p.1 < p'.1)
    {s : Shape} {src dst : Memref sig .tc .vmem s .bf16} (hN : dst.view.dmaCredit = N p.1) {hsrc : src.view.WordExact} {hdst : dst.view.WordExact} :
    Runs c iprop(records A B K ∗ flying c p ∗ Owing c l)
      (Prog.lift (.waitDma2 (recvSem p.1 p.2) src dst hsrc hdst))
      iprop((arrived c p ∗ landed A B c p) ∗ Owing c l) := by
  refine Runs.conseq ((runs_wait A B K c (true, p) l (mayWait_owed c _ (2 + p.1.val) (lv_recv c p) l (fun p' hp' => by have := hl p' hp'; omega)) hN).frame
    iprop(atPos ER (scell c p) 0 ∅ 0 ∗ cred (tallyAt (scell c p) () (N p.1)))) ?_ ?_
  · unfold flying
    iintro ⟨HR, ⟨H1, H2, H3, H4⟩, HO⟩
    isplitr [H1 H3]
    · isplitl [HR]; · iexact HR
      isplitr [HO]
      · isplitl [H2]
        · iexact H2
        · iexact H4
      · iexact HO
    · isplitl [H1]
      · iexact H1
      · iexact H3
  · unfold arrived
    iintro ⟨⟨⟨H1, H2⟩, HO⟩, H3, H4⟩
    isplitr [HO]
    · isplitr [H2]
      · isplitl [H3]; · iexact H3
        isplitl [H4]
        · iexact H4
        · iexact H1
      · iapply (Entails.of_eq (show xPay A B c (true, p) = landed A B c p from rfl)) $$ H2
    · iexact HO

/-- The wait for its own data to have left, nothing owed any more. -/
theorem runs_sent (c : Dev nD) (p : Xfer)
    {s : Shape} {src dst : Memref sig .tc .vmem s .bf16} (hN : dst.view.dmaCredit = N p.1) {hsrc : src.view.WordExact} {hdst : dst.view.WordExact} :
    Runs c iprop(records A B K ∗ arrived c p ∗ Owing c [])
      (Prog.lift (.waitDma2 (sendSem p.1 p.2) src dst hsrc hdst))
      iprop((closed c p ∗ lent A B c p) ∗ Owing c []) := by
  refine Runs.conseq ((runs_wait A B K c (false, p) [] (by unfold owed; rw [MayWait_zero]; iintro -; iempintro) hN).frame
    iprop(semVal (rcell c p) 0)) ?_ ?_
  · unfold arrived
    iintro ⟨HR, ⟨H1, H2, H3⟩, HO⟩
    isplitr [H3]
    · isplitl [HR]; · iexact HR
      isplitr [HO]
      · isplitl [H1]
        · iexact H1
        · iexact H2
      · iexact HO
    · iexact H3
  · unfold closed
    iintro ⟨⟨⟨H1, H2⟩, HO⟩, H3⟩
    isplitr [HO]
    · isplitr [H2]
      · isplitl [H1]
        · iexact H1
        · iexact H3
      · iapply (Entails.of_eq (show xPay A B c (false, p) = lent A B c p from rfl)) $$ H2
    · iexact HO

end Cert.AllReduce

end
-- ==== Proof.Phases.lean ====
/-
# A chunk's way through the kernel

What each stage does with one chunk: the product and its first send, the two reductions with the sends behind
them, the two stages of the gather, and the waits at the end.
-/
module

public import proofs.«01_k».proof.Proof.Steps

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S768x384 .bf16) (B : Dev nD → Vec F S384x768 .bf16)

abbrev bL (c : Dev nD) : Loc nD τ sig := (c : Thread nD τ).loc cc0_stg1_0

/-- The device's part of the right operand, in its staging buffer. -/
def argB (c : Dev nD) : sProp 𝕄 := (bL c ↦{fullShare} (B c : Buf (Elt F) (bL c)))
/-- Chunk `i` of the staging buffer, holding anything, -/
def chunkG (c : Dev nD) (i : Fin 6) : sProp 𝕄 := iprop(∃ f : Buf (Elt F) (gL c), gL c ↦[reg 0 768 (col i)]{fullShare} f)
/-- its kept half, holding the device's own product, -/
def keptK (c : Dev nD) (i : Fin 6) : sProp 𝕄 := (gL c ↦[reg (rowK i c) 384 (col i)]{fullShare} (own A B c : Buf (Elt F) (gL c)))
/-- its owned quarter, holding the sum of two. -/
def keptS (c : Dev nD) (i : Fin 6) : sProp 𝕄 := (gL c ↦[reg (rowS i c) 192 (col i)]{fullShare} (sum1 A B c : Buf (Elt F) (gL c)))
/-- The owned quarter of the result, holding anything, -/
def mineO (c : Dev nD) (i : Fin 6) : sProp 𝕄 := iprop(∃ f : Buf (Elt F) (oL c), oL c ↦[reg (rowS i c) 192 (col i)]{fullShare} f)
/-- half of it, holding the sum of four, while the other half is lent, -/
def heldS (c : Dev nD) (i : Fin 6) : sProp 𝕄 := (oL c ↦[reg (rowS i c) 192 (col i)]{fullShare.right} (out A B : Buf (Elt F) (oL c)))
/-- and half of the quarter that came in. -/
def heldP (c : Dev nD) (i : Fin 6) : sProp 𝕄 := (oL c ↦[reg (rowP i c) 192 (col i)]{fullShare.left} (out A B : Buf (Elt F) (oL c)))

/-! ## The arithmetic -/

omit [FloatOps F] in
theorem setOn_whole {b : Ref sig .tc} {S T : Finset b.ty.shape.Idx} (h : S = T) : (Memref.whole b).view.setOn S ⊆ T := fun x hx => by
  obtain ⟨y, hy, rfl⟩ := Finset.mem_map.mp hx
  exact h ▸ hy

theorem runs_comp (c : Dev nD) (i : Fin 6) :
    Runs c iprop(chunkG c i ∗ argB B c) (comp (A c) i) iprop((keptK A B c i ∗ lent A B c (0, i)) ∗ argB B c) := fun Kt => by
  have hC : gM.view.setOn (rC i).toLoadRect.set ⊆ reg 0 768 (col i) := setOn_whole (rC_set i)
  have hC' : (gM.access (rC i)).setOn Finset.univ ⊆ reg 0 768 (col i) := ((View.set_slice_whole _ _).trans (rC_set i)).subset
  unfold comp chunkG argB
  simp only [Prog.lift, Prog.bind_op, Prog.bind_ret]
  iintro ⟨⟨⟨%f, Hg⟩, Hb⟩, Hk⟩
  iapply (wp_load 𝒱₀ (c : Thread nD τ) none Set.univ (m := bM) (Finset.subset_univ _)) $$ Hb
  iintro Hb
  iapply (wp_load 𝒱₀ (c : Thread nD τ) none Set.univ (m := gM) hC) $$ Hg
  iintro Hg
  iapply (wp_store 𝒱₀ (c : Thread nD τ) none Set.univ (m := gM) (r := rC i) (Mk := Finset.univ) hC') $$ Hg
  iintro Hg
  rw [wp_ret]
  imodintro
  iapply Hk
  isplitr [Hb]
  · ihave Hg := (Entails.of_eq (pointsTo_congr (store_comp A B c i f))) $$ Hg
    rw [halves_union i c]
    ihave Hg := (pointsTo_union (halves_disjoint i c)).1 $$ Hg
    iexact Hg
  · iexact Hb

theorem runs_red0 (c : Dev nD) (i : Fin 6) :
    Runs c iprop(keptK A B c i ∗ landed A B c (0, i)) (red0 c i) iprop((keptS A B c i ∗ lent A B c (1, i)) ∗ landed A B c (0, i)) := fun Kt => by
  have hK : gM.view.setOn (rK i c).toLoadRect.set ⊆ reg (rowK i c) 384 (col i) := setOn_whole (rK_set i c)
  have hK' : (gM.access (rK i c)).setOn Finset.univ ⊆ reg (rowK i c) 384 (col i) := ((View.set_slice_whole _ _).trans (rK_set i c)).subset
  have hR : r1M.view.setOn (rR1 i).toLoadRect.set ⊆ slab1 i := setOn_whole rfl
  unfold red0 keptK landed
  simp only [Prog.lift, Prog.bind_op, Prog.bind_ret]
  iintro ⟨⟨Hg, Hr⟩, Hk⟩
  iapply (wp_load 𝒱₀ (c : Thread nD τ) none Set.univ (m := gM) hK) $$ Hg
  iintro Hg
  iapply (wp_load 𝒱₀ (c : Thread nD τ) none Set.univ (m := r1M) hR) $$ Hr
  iintro Hr
  iapply (wp_load 𝒱₀ (c : Thread nD τ) none Set.univ (m := gM) hK) $$ Hg
  iintro Hg
  iapply (wp_store 𝒱₀ (c : Thread nD τ) none Set.univ (m := gM) (r := rK i c) (Mk := Finset.univ) hK') $$ Hg
  iintro Hg
  rw [wp_ret]
  imodintro
  iapply Hk
  isplitr [Hr]
  · ihave Hg := (Entails.of_eq (pointsTo_congr (store_red0 A B c i _ _ (fun _ _ => rfl)))) $$ Hg
    rw [quarters_union i c]
    ihave Hg := (pointsTo_union (quarters_disjoint i c)).1 $$ Hg
    iexact Hg
  · iexact Hr

theorem runs_red1 (c : Dev nD) (i : Fin 6) :
    Runs c iprop(keptS A B c i ∗ mineO c i ∗ landed A B c (1, i)) (red1 c i)
      iprop((keptS A B c i ∗ heldS A B c i ∗ lent A B c (2, i)) ∗ landed A B c (1, i)) := fun Kt => by
  have hS : gM.view.setOn (rS i c).toLoadRect.set ⊆ reg (rowS i c) 192 (col i) := setOn_whole (rS_set i c)
  have hO : oM.view.setOn (rS i c).toLoadRect.set ⊆ reg (rowS i c) 192 (col i) := setOn_whole (rS_set i c)
  have hO' : (oM.access (rS i c)).setOn Finset.univ ⊆ reg (rowS i c) 192 (col i) := ((View.set_slice_whole _ _).trans (rS_set i c)).subset
  have hR : r2M.view.setOn (rR2 i).toLoadRect.set ⊆ slab2 i := setOn_whole rfl
  unfold red1 keptS mineO landed
  simp only [Prog.lift, Prog.bind_op, Prog.bind_ret]
  iintro ⟨⟨Hg, ⟨%f, Ho⟩, Hr⟩, Hk⟩
  iapply (wp_load 𝒱₀ (c : Thread nD τ) none Set.univ (m := gM) hS) $$ Hg
  iintro Hg
  iapply (wp_load 𝒱₀ (c : Thread nD τ) none Set.univ (m := r2M) hR) $$ Hr
  iintro Hr
  iapply (wp_load 𝒱₀ (c : Thread nD τ) none Set.univ (m := oM) hO) $$ Ho
  iintro Ho
  iapply (wp_store 𝒱₀ (c : Thread nD τ) none Set.univ (m := oM) (r := rS i c) (Mk := Finset.univ) hO') $$ Ho
  iintro Ho
  rw [wp_ret]
  imodintro
  iapply Hk
  isplitr [Hr]
  · isplitl [Hg]
    · iexact Hg
    ihave Ho := (Entails.of_eq (pointsTo_congr (store_red1 A B c i _ _ (fun _ _ => rfl)))) $$ Ho
    ihave Ho := (pointsTo_share (PosShare.mem_left_op_right fullShare)).1 $$ Ho
    icases Ho with ⟨H1, H2⟩
    isplitl [H2]
    · unfold heldS; iexact H2
    · unfold lent; iexact H1
  · iexact Hr

/-! ## The transfers -/

variable (K : Dev nD × Option Key → ℕ)

theorem runs_send0 (c : Dev nD) (i : Fin 6) (l : List Xfer) :
    Runs c iprop(records A B K ∗ (lent A B c (0, i) ∗ ready c (0, i)) ∗ Owing c ((0, i) :: l)) (send0 c i) iprop(flying c (0, i) ∗ Owing c l) :=
  runs_send A B K c (0, i) l (src := gO i c) (dst := d1 i) rfl fullShare (own A B c)
    (by rw [gO_set]; rfl) (by rw [d1_set]; exact .rfl)
    (fun fd => by rw [d1_set]; exact Entails.of_eq (pointsTo_congr (land_send0 A B c i fd)))

theorem runs_send1 (c : Dev nD) (i : Fin 6) (l : List Xfer) :
    Runs c iprop(records A B K ∗ (lent A B c (1, i) ∗ ready c (1, i)) ∗ Owing c ((1, i) :: l)) (send1 c i) iprop(flying c (1, i) ∗ Owing c l) :=
  runs_send A B K c (1, i) l (src := gP i c) (dst := d2 i) rfl fullShare (sum1 A B c)
    (by rw [gP_set]; rfl) (by rw [d2_set]; exact .rfl)
    (fun fd => by rw [d2_set]; exact Entails.of_eq (pointsTo_congr (land_send1 A B c i fd)))

theorem runs_send2 (c : Dev nD) (i : Fin 6) (l : List Xfer) :
    Runs c iprop(records A B K ∗ (lent A B c (2, i) ∗ ready c (2, i)) ∗ Owing c ((2, i) :: l)) (send2 c i) iprop(flying c (2, i) ∗ Owing c l) :=
  runs_send A B K c (2, i) l (src := oS i c) (dst := oS i c) rfl fullShare.left (out A B)
    (by rw [oS_set]; rfl) (by rw [oS_set, ← rowP_tgt2]; exact .rfl)
    (fun fd => by
      rw [oS_set]
      refine (Entails.of_eq (pointsTo_congr (land_send2 c i fd (out A B)))).trans ?_
      rw [← rowP_tgt2]
      exact .rfl)

theorem runs_send3 (c : Dev nD) (i : Fin 6) (l : List Xfer) :
    Runs c iprop(records A B K ∗ (lent A B c (3, i) ∗ ready c (3, i)) ∗ Owing c ((3, i) :: l)) (send3 c i) iprop(flying c (3, i) ∗ Owing c l) :=
  runs_send A B K c (3, i) l (src := oK i c) (dst := oK i c) rfl fullShare.right (out A B)
    (by rw [oK_set]; rfl) (by rw [oK_set, ← rowO_tgt3]; exact .rfl)
    (fun fd => by
      rw [oK_set]
      refine (Entails.of_eq (pointsTo_congr (land_send3 c i fd (out A B)))).trans ?_
      rw [← rowO_tgt3]
      exact .rfl)

theorem runs_recv0 (c : Dev nD) (i : Fin 6) (l : List Xfer) (hl : ∀ p ∈ l, (0 : Fin 4) < p.1) :
    Runs c iprop(records A B K ∗ flying c (0, i) ∗ Owing c l) (recv0 c i) iprop((arrived c (0, i) ∗ landed A B c (0, i)) ∗ Owing c l) :=
  runs_recv A B K c (0, i) l hl (src := gO i c) (dst := d1 i) rfl
theorem runs_recv1 (c : Dev nD) (i : Fin 6) (l : List Xfer) (hl : ∀ p ∈ l, (1 : Fin 4) < p.1) :
    Runs c iprop(records A B K ∗ flying c (1, i) ∗ Owing c l) (recv1 c i) iprop((arrived c (1, i) ∗ landed A B c (1, i)) ∗ Owing c l) :=
  runs_recv A B K c (1, i) l hl (src := gP i c) (dst := d2 i) rfl
theorem runs_recv2 (c : Dev nD) (i : Fin 6) (l : List Xfer) (hl : ∀ p ∈ l, (2 : Fin 4) < p.1) :
    Runs c iprop(records A B K ∗ flying c (2, i) ∗ Owing c l) (recv2 c i) iprop((arrived c (2, i) ∗ landed A B c (2, i)) ∗ Owing c l) :=
  runs_recv A B K c (2, i) l hl (src := oP i c) (dst := oP i c) rfl
theorem runs_recv3 (c : Dev nD) (i : Fin 6) (l : List Xfer) (hl : ∀ p ∈ l, (3 : Fin 4) < p.1) :
    Runs c iprop(records A B K ∗ flying c (3, i) ∗ Owing c l) (recv3 c i) iprop((arrived c (3, i) ∗ landed A B c (3, i)) ∗ Owing c l) :=
  runs_recv A B K c (3, i) l hl (src := oO i c) (dst := oO i c) rfl
theorem runs_sent0 (c : Dev nD) (i : Fin 6) :
    Runs c iprop(records A B K ∗ arrived c (0, i) ∗ Owing c []) (sent0 c i) iprop((closed c (0, i) ∗ lent A B c (0, i)) ∗ Owing c []) :=
  runs_sent A B K c (0, i) (src := d1 i) (dst := gO i c) rfl
theorem runs_sent1 (c : Dev nD) (i : Fin 6) :
    Runs c iprop(records A B K ∗ arrived c (1, i) ∗ Owing c []) (sent1 c i) iprop((closed c (1, i) ∗ lent A B c (1, i)) ∗ Owing c []) :=
  runs_sent A B K c (1, i) (src := d2 i) (dst := gP i c) rfl
theorem runs_sent2 (c : Dev nD) (i : Fin 6) :
    Runs c iprop(records A B K ∗ arrived c (2, i) ∗ Owing c []) (sent2 c i) iprop((closed c (2, i) ∗ lent A B c (2, i)) ∗ Owing c []) :=
  runs_sent A B K c (2, i) (src := oS i c) (dst := oS i c) rfl
theorem runs_sent3 (c : Dev nD) (i : Fin 6) :
    Runs c iprop(records A B K ∗ arrived c (3, i) ∗ Owing c []) (sent3 c i) iprop((closed c (3, i) ∗ lent A B c (3, i)) ∗ Owing c []) :=
  runs_sent A B K c (3, i) (src := oK i c) (dst := oK i c) rfl

/-! ## The stages, chunk by chunk -/

/-- The debts of stage `s` for the chunks `l` and of everything after it. -/
def stageDebt (c : Dev nD) (s : Fin 4) (rest : List Xfer) (l : List (Fin 6)) : sProp 𝕄 := Owing c (l.map (fun i => (s, i)) ++ rest)

/-- Chunk `i` on device `c` once the neighbours are known to be ready, -/
def st0 (c : Dev nD) (i : Fin 6) : sProp 𝕄 := iprop(chunkG c i ∗ mineO c i ∗ ready c (0, i) ∗ ready c (1, i) ∗ ready c (2, i) ∗ ready c (3, i))
/-- after the product and its send, -/
def st1 (c : Dev nD) (i : Fin 6) : sProp 𝕄 := iprop(keptK A B c i ∗ mineO c i ∗ flying c (0, i) ∗ ready c (1, i) ∗ ready c (2, i) ∗ ready c (3, i))
/-- after the first reduction and its send, -/
def st2 (c : Dev nD) (i : Fin 6) : sProp 𝕄 :=
  iprop(landed A B c (0, i) ∗ keptS A B c i ∗ mineO c i ∗ arrived c (0, i) ∗ flying c (1, i) ∗ ready c (2, i) ∗ ready c (3, i))
/-- after the second reduction and the first send of the gather, -/
def st3 (c : Dev nD) (i : Fin 6) : sProp 𝕄 :=
  iprop((landed A B c (0, i) ∗ landed A B c (1, i)) ∗ keptS A B c i ∗ heldS A B c i ∗ arrived c (0, i) ∗ arrived c (1, i) ∗ flying c (2, i) ∗ ready c (3, i))
/-- after the second send of the gather, -/
def st4 (c : Dev nD) (i : Fin 6) : sProp 𝕄 :=
  iprop((landed A B c (0, i) ∗ landed A B c (1, i)) ∗ keptS A B c i ∗ heldP A B c i ∗ arrived c (0, i) ∗ arrived c (1, i) ∗ arrived c (2, i) ∗ flying c (3, i))
/-- when everything has come in, -/
def st5 (c : Dev nD) (i : Fin 6) : sProp 𝕄 :=
  iprop((landed A B c (0, i) ∗ landed A B c (1, i) ∗ landed A B c (3, i)) ∗ keptS A B c i ∗ heldP A B c i
    ∗ arrived c (0, i) ∗ arrived c (1, i) ∗ arrived c (2, i) ∗ arrived c (3, i))
/-- and as the sends of the four stages are waited for, the first, -/
def st6 (c : Dev nD) (i : Fin 6) : sProp 𝕄 :=
  iprop((landed A B c (0, i) ∗ landed A B c (1, i) ∗ landed A B c (3, i)) ∗ keptS A B c i ∗ heldP A B c i
    ∗ (closed c (0, i) ∗ lent A B c (0, i)) ∗ arrived c (1, i) ∗ arrived c (2, i) ∗ arrived c (3, i))
/-- the second, -/
def st7 (c : Dev nD) (i : Fin 6) : sProp 𝕄 :=
  iprop((landed A B c (0, i) ∗ landed A B c (1, i) ∗ landed A B c (3, i)) ∗ keptS A B c i ∗ heldP A B c i
    ∗ (closed c (0, i) ∗ lent A B c (0, i)) ∗ (closed c (1, i) ∗ lent A B c (1, i)) ∗ arrived c (2, i) ∗ arrived c (3, i))
/-- the third -/
def st8 (c : Dev nD) (i : Fin 6) : sProp 𝕄 :=
  iprop((landed A B c (0, i) ∗ landed A B c (1, i) ∗ landed A B c (3, i)) ∗ keptS A B c i ∗ heldP A B c i
    ∗ (closed c (0, i) ∗ lent A B c (0, i)) ∗ (closed c (1, i) ∗ lent A B c (1, i)) ∗ (closed c (2, i) ∗ lent A B c (2, i)) ∗ arrived c (3, i))
/-- and the fourth. -/
def st9 (c : Dev nD) (i : Fin 6) : sProp 𝕄 :=
  iprop((landed A B c (0, i) ∗ landed A B c (1, i) ∗ landed A B c (3, i)) ∗ keptS A B c i ∗ heldP A B c i
    ∗ (closed c (0, i) ∗ lent A B c (0, i)) ∗ (closed c (1, i) ∗ lent A B c (1, i)) ∗ (closed c (2, i) ∗ lent A B c (2, i)) ∗ (closed c (3, i) ∗ lent A B c (3, i)))

theorem stageDebt_lt {s s' : Fin 4} {rest : List Xfer} (hs : s < s') (hr : ∀ p ∈ rest, s' < p.1) (l : List (Fin 6)) :
    ∀ p ∈ l.map (fun i => (s', i)) ++ rest, s < p.1 := fun p hp => by
  rcases List.mem_append.mp hp with h | h
  · obtain ⟨i, -, rfl⟩ := List.mem_map.mp h
    exact hs
  · exact hs.trans (hr p h)

theorem runs_start0 (c : Dev nD) (i : Fin 6) (l : List (Fin 6)) (rest : List Xfer) :
    Runs c iprop(records A B K ∗ (keptK A B c i ∗ lent A B c (0, i) ∗ mineO c i ∗ ready c (0, i) ∗ ready c (1, i) ∗ ready c (2, i) ∗ ready c (3, i)) ∗ stageDebt c 0 rest (i :: l))
      (send0 c i) iprop(st1 A B c i ∗ stageDebt c 0 rest l) := by
  unfold st1
  refine ((runs_send0 A B K c i (l.map (fun i => (0, i)) ++ rest)).frame iprop(keptK A B c i ∗ mineO c i ∗ ready c (1, i) ∗ ready c (2, i) ∗ ready c (3, i))).conseq ?_ ?_
  · iintro ⟨H1, ⟨H2, H3, H4, H5, H6, H7, H8⟩, H9⟩
    iframe
    unfold stageDebt
    iexact H9
  · iintro ⟨⟨H1, H2⟩, H3, H4, H5, H6, H7⟩
    iframe
    unfold stageDebt
    iexact H2

theorem runs_phase0 (c : Dev nD) (rest : List Xfer) (i : Fin 6) (l : List (Fin 6)) :
    Runs c iprop(records A B K ∗ st0 c i ∗ (argB B c ∗ stageDebt c 0 rest (i :: l)))
      (do comp (A c) i; send0 c i)
      iprop(st1 A B c i ∗ (argB B c ∗ stageDebt c 0 rest l)) := by
  unfold st0
  refine Runs.bind (((runs_comp A B c i).frame iprop(records A B K ∗ (mineO c i ∗ ready c (0, i) ∗ ready c (1, i) ∗ ready c (2, i) ∗ ready c (3, i)) ∗ stageDebt c 0 rest (i :: l))).conseq ?_ .rfl)
    (((runs_start0 A B K c i l rest).frame (argB B c)).conseq ?_ ?_)
  · iintro ⟨H1, ⟨H2, H3, H4, H5, H6, H7⟩, H8, H9⟩
    iframe
  · iintro ⟨⟨⟨H1, H2⟩, H3⟩, H4, ⟨H5, H6, H7, H8, H9⟩, H10⟩
    iframe
  · iintro ⟨⟨H1, H2⟩, H3⟩
    iframe

theorem runs_phase1 (c : Dev nD) (rest : List Xfer) (hr : ∀ p ∈ rest, (1 : Fin 4) < p.1) (i : Fin 6) (l : List (Fin 6)) :
    Runs c iprop(records A B K ∗ st1 A B c i ∗ stageDebt c 1 rest (i :: l))
      (do recv0 c i; red0 c i; send1 c i)
      iprop(st2 A B c i ∗ stageDebt c 1 rest l) := by
  unfold st1 st2
  refine Runs.bind (((runs_recv0 A B K c i _ (stageDebt_lt (s := 0) (by decide) hr (i :: l))).frame
      iprop(records A B K ∗ keptK A B c i ∗ mineO c i ∗ ready c (1, i) ∗ ready c (2, i) ∗ ready c (3, i))).conseq ?_ .rfl)
    (Runs.bind (((runs_red0 A B c i).frame
      iprop(records A B K ∗ arrived c (0, i) ∗ mineO c i ∗ ready c (1, i) ∗ ready c (2, i) ∗ ready c (3, i) ∗ stageDebt c 1 rest (i :: l))).conseq ?_ .rfl)
    (((runs_send1 A B K c i (l.map (fun i => (1, i)) ++ rest)).frame
      iprop(landed A B c (0, i) ∗ keptS A B c i ∗ mineO c i ∗ arrived c (0, i) ∗ ready c (2, i) ∗ ready c (3, i))).conseq ?_ ?_))
  · unfold stageDebt
    iintro ⟨#H1, ⟨H2, H3, H4, H5, H6, H7⟩, H8⟩
    iframe H1
    iframe
  · unfold stageDebt
    iintro ⟨⟨⟨H1, H2⟩, H3⟩, H4, H5, H6, H7, H8, H9⟩
    iframe
  · unfold stageDebt
    iintro ⟨⟨⟨H1, H2⟩, H3⟩, H4, H5, H6, H7, H8, H9, H10⟩
    iframe
    iexact H10
  · unfold stageDebt
    iintro ⟨⟨H1, H2⟩, H3, H4, H5, H6, H7, H8⟩
    iframe

theorem runs_phase2 (c : Dev nD) (rest : List Xfer) (hr : ∀ p ∈ rest, (2 : Fin 4) < p.1) (i : Fin 6) (l : List (Fin 6)) :
    Runs c iprop(records A B K ∗ st2 A B c i ∗ stageDebt c 2 rest (i :: l))
      (do recv1 c i; red1 c i; send2 c i)
      iprop(st3 A B c i ∗ stageDebt c 2 rest l) := by
  unfold st2 st3
  refine Runs.bind (((runs_recv1 A B K c i _ (stageDebt_lt (s := 1) (by decide) hr (i :: l))).frame
      iprop(records A B K ∗ landed A B c (0, i) ∗ keptS A B c i ∗ mineO c i ∗ arrived c (0, i) ∗ ready c (2, i) ∗ ready c (3, i))).conseq ?_ .rfl)
    (Runs.bind (((runs_red1 A B c i).frame
      iprop(records A B K ∗ landed A B c (0, i) ∗ arrived c (0, i) ∗ arrived c (1, i) ∗ ready c (2, i) ∗ ready c (3, i) ∗ stageDebt c 2 rest (i :: l))).conseq ?_ .rfl)
    (((runs_send2 A B K c i (l.map (fun i => (2, i)) ++ rest)).frame
      iprop((landed A B c (0, i) ∗ landed A B c (1, i)) ∗ keptS A B c i ∗ heldS A B c i ∗ arrived c (0, i) ∗ arrived c (1, i) ∗ ready c (3, i))).conseq ?_ ?_))
  · unfold stageDebt
    iintro ⟨#H1, ⟨H2, H3, H4, H5, H6, H7, H8⟩, H9⟩
    iframe H1
    iframe
  · unfold stageDebt
    iintro ⟨⟨⟨H1, H2⟩, H3⟩, H4, H5, H6, H7, H8, H9, H10⟩
    iframe
  · unfold stageDebt
    iintro ⟨⟨⟨H1, H2, H3⟩, H4⟩, H5, H6, H7, H8, H9, H10, H11⟩
    iframe
    iexact H11
  · unfold stageDebt
    iintro ⟨⟨H1, H2⟩, ⟨H3, H4⟩, H5, H6, H7, H8, H9⟩
    iframe

/-- The owned quarter's held half and the quarter that came in make the lent half of the kept half. -/
theorem join3 (c : Dev nD) (i : Fin 6) : iprop(heldS A B c i ∗ landed A B c (2, i)) ⊢ iprop(heldP A B c i ∗ lent A B c (3, i)) := by
  unfold heldS landed heldP lent
  dsimp only
  rw [quarters_union i c]
  iintro ⟨HS, HP⟩
  ihave HP := (pointsTo_share (PosShare.mem_left_op_right fullShare)).1 $$ HP
  icases HP with ⟨H1, H2⟩
  isplitl [H1]
  · iexact H1
  iapply (pointsTo_union (quarters_disjoint i c)).2
  isplitl [HS]
  · iexact HS
  · iexact H2

theorem runs_phase3 (c : Dev nD) (rest : List Xfer) (hr : ∀ p ∈ rest, (3 : Fin 4) < p.1) (i : Fin 6) (l : List (Fin 6)) :
    Runs c iprop(records A B K ∗ st3 A B c i ∗ stageDebt c 3 rest (i :: l))
      (do recv2 c i; send3 c i)
      iprop(st4 A B c i ∗ stageDebt c 3 rest l) := by
  unfold st3 st4
  refine Runs.bind (((runs_recv2 A B K c i _ (stageDebt_lt (s := 2) (by decide) hr (i :: l))).frame
      iprop(records A B K ∗ (landed A B c (0, i) ∗ landed A B c (1, i)) ∗ keptS A B c i ∗ heldS A B c i ∗ arrived c (0, i) ∗ arrived c (1, i) ∗ ready c (3, i))).conseq ?_ .rfl)
    (((runs_send3 A B K c i (l.map (fun i => (3, i)) ++ rest)).frame
      iprop((landed A B c (0, i) ∗ landed A B c (1, i)) ∗ keptS A B c i ∗ heldP A B c i ∗ arrived c (0, i) ∗ arrived c (1, i) ∗ arrived c (2, i))).conseq ?_ ?_)
  · unfold stageDebt
    iintro ⟨#H1, ⟨⟨H2, H3⟩, H4, H5, H6, H7, H8, H9⟩, H10⟩
    iframe H1
    iframe
  · iintro ⟨⟨⟨H1, H2⟩, H3⟩, H4, ⟨H5, H6⟩, H7, H8, H9, H10, H11⟩
    ihave H := (join3 A B c i) $$ [H8 H2]
    · isplitl [H8] <;> iassumption
    icases H with ⟨H12, H13⟩
    iframe
    iexact H3
  · unfold stageDebt
    iintro ⟨⟨H1, H2⟩, ⟨H3, H4⟩, H5, H6, H7, H8, H9⟩
    iframe

theorem runs_phase4 (c : Dev nD) (i : Fin 6) (l : List (Fin 6)) :
    Runs c iprop(records A B K ∗ st4 A B c i ∗ Owing c []) (recv3 c i) iprop(st5 A B c i ∗ Owing c []) := by
  unfold st4 st5
  refine ((runs_recv3 A B K c i [] (fun _ h => nomatch h)).frame
      iprop((landed A B c (0, i) ∗ landed A B c (1, i)) ∗ keptS A B c i ∗ heldP A B c i ∗ arrived c (0, i) ∗ arrived c (1, i) ∗ arrived c (2, i))).conseq ?_ ?_
  · iintro ⟨H1, ⟨⟨H2, H3⟩, H4, H5, H6, H7, H8, H9⟩, H10⟩
    iframe
  · iintro ⟨⟨⟨H1, H2⟩, H3⟩, ⟨H4, H5⟩, H6, H7, H8, H9, H10⟩
    iframe

theorem runs_phase5 (c : Dev nD) (i : Fin 6) (l : List (Fin 6)) :
    Runs c iprop(records A B K ∗ st5 A B c i ∗ Owing c []) (sent0 c i) iprop(st6 A B c i ∗ Owing c []) := by
  unfold st5 st6
  refine ((runs_sent0 A B K c i).frame
      iprop((landed A B c (0, i) ∗ landed A B c (1, i) ∗ landed A B c (3, i)) ∗ keptS A B c i ∗ heldP A B c i ∗ arrived c (1, i) ∗ arrived c (2, i) ∗ arrived c (3, i))).conseq ?_ ?_
  · iintro ⟨H1, ⟨H2, H3, H4, H5, H6, H7, H8⟩, H9⟩
    iframe
  · iintro ⟨⟨H1, H2⟩, H3, H4, H5, H6, H7, H8⟩
    iframe

theorem runs_phase6 (c : Dev nD) (i : Fin 6) (l : List (Fin 6)) :
    Runs c iprop(records A B K ∗ st6 A B c i ∗ Owing c []) (sent1 c i) iprop(st7 A B c i ∗ Owing c []) := by
  unfold st6 st7
  refine ((runs_sent1 A B K c i).frame
      iprop((landed A B c (0, i) ∗ landed A B c (1, i) ∗ landed A B c (3, i)) ∗ keptS A B c i ∗ heldP A B c i
        ∗ (closed c (0, i) ∗ lent A B c (0, i)) ∗ arrived c (2, i) ∗ arrived c (3, i))).conseq ?_ ?_
  · iintro ⟨H1, ⟨H2, H3, H4, H5, H6, H7, H8⟩, H9⟩
    iframe
  · iintro ⟨⟨H1, H2⟩, H3, H4, H5, H6, H7, H8⟩
    iframe

theorem runs_phase7 (c : Dev nD) (i : Fin 6) (l : List (Fin 6)) :
    Runs c iprop(records A B K ∗ st7 A B c i ∗ Owing c []) (sent2 c i) iprop(st8 A B c i ∗ Owing c []) := by
  unfold st7 st8
  refine ((runs_sent2 A B K c i).frame
      iprop((landed A B c (0, i) ∗ landed A B c (1, i) ∗ landed A B c (3, i)) ∗ keptS A B c i ∗ heldP A B c i
        ∗ (closed c (0, i) ∗ lent A B c (0, i)) ∗ (closed c (1, i) ∗ lent A B c (1, i)) ∗ arrived c (3, i))).conseq ?_ ?_
  · iintro ⟨H1, ⟨H2, H3, H4, H5, H6, H7, H8⟩, H9⟩
    iframe
  · iintro ⟨⟨H1, H2⟩, H3, H4, H5, H6, H7, H8⟩
    iframe

theorem runs_phase8 (c : Dev nD) (i : Fin 6) (l : List (Fin 6)) :
    Runs c iprop(records A B K ∗ st8 A B c i ∗ Owing c []) (sent3 c i) iprop(st9 A B c i ∗ Owing c []) := by
  unfold st8 st9
  refine ((runs_sent3 A B K c i).frame
      iprop((landed A B c (0, i) ∗ landed A B c (1, i) ∗ landed A B c (3, i)) ∗ keptS A B c i ∗ heldP A B c i
        ∗ (closed c (0, i) ∗ lent A B c (0, i)) ∗ (closed c (1, i) ∗ lent A B c (1, i)) ∗ (closed c (2, i) ∗ lent A B c (2, i)))).conseq ?_ ?_
  · iintro ⟨H1, ⟨H2, H3, H4, H5, H6, H7, H8⟩, H9⟩
    iframe
  · iintro ⟨⟨H1, H2⟩, H3, H4, H5, H6, H7, H8⟩
    iframe

/-! ## At the end -/

/-- Chunk `i` of the result, whole and holding the sum of four. -/
def doneO (c : Dev nD) (i : Fin 6) : sProp 𝕄 := (oL c ↦[reg 0 768 (col i)]{fullShare} (out A B : Buf (Elt F) (oL c)))

theorem join_out (c : Dev nD) (i : Fin 6) :
    iprop(heldP A B c i ∗ lent A B c (2, i) ∗ lent A B c (3, i) ∗ landed A B c (3, i)) ⊢ doneO A B c i := by
  unfold heldP lent landed doneO
  dsimp only
  have hd := halves_disjoint i c
  rw [halves_union i c]
  rw [quarters_union i c] at hd ⊢
  iintro ⟨H1, H2, H3, H4⟩
  iapply (pointsTo_union hd).2
  isplitr [H4]
  · iapply (pointsTo_share (PosShare.mem_left_op_right fullShare)).2
    isplitr [H3]
    · iapply (pointsTo_union (quarters_disjoint i c)).2
      isplitl [H2]
      · iexact H2
      · iexact H1
    · iexact H3
  · iexact H4

theorem join_stage (c : Dev nD) (i : Fin 6) :
    iprop(keptS A B c i ∗ lent A B c (0, i) ∗ lent A B c (1, i)) ⊢ chunkG c i := by
  unfold keptS lent chunkG
  dsimp only
  rw [halves_union i c]
  have h : iprop((gL c ↦[reg (rowK i c) 384 (col i)]{fullShare} (sum1 A B c : Buf (Elt F) (gL c))) ∗ gL c ↦[reg (rowO i c) 384 (col i)]{fullShare} (own A B c : Buf (Elt F) (gL c)))
    ⊢ (_ : sProp 𝕄) := pointsTo_join (halves_disjoint i c)
  rw [quarters_union i c] at h ⊢
  iintro ⟨H1, H2, H3⟩
  iexists _
  iapply h
  isplitr [H2]
  · iapply (pointsTo_union (quarters_disjoint i c)).2
    isplitl [H1]
    · iexact H1
    · iexact H3
  · iexact H2

/-- What a chunk leaves behind. -/
def stEnd (c : Dev nD) (i : Fin 6) : sProp 𝕄 :=
  iprop(chunkG c i ∗ doneO A B c i ∗ slot c (0, i) ∗ slot c (1, i) ∗ (closed c (0, i) ∗ closed c (1, i) ∗ closed c (2, i) ∗ closed c (3, i)))

theorem st9_end (c : Dev nD) (i : Fin 6) : st9 A B c i ⊢ stEnd A B c i := by
  unfold st9 stEnd
  iintro ⟨⟨L0, L1, L3⟩, HS, HP, ⟨C0, T0⟩, ⟨C1, T1⟩, ⟨C2, T2⟩, ⟨C3, T3⟩⟩
  isplitl [HS T0 T1]
  · iapply (join_stage A B c i); iframe
  isplitl [HP T2 T3 L3]
  · iapply (join_out A B c i); iframe
  isplitl [L0]
  · unfold landed slot; iexists _; iexact L0
  isplitl [L1]
  · unfold landed slot; iexists _; iexact L1
  iframe

end Cert.AllReduce

end
-- ==== Proof.Body.lean ====
/-
# One device's run

What a device starts from, and what its whole program leaves.
-/
module

public import proofs.«01_k».proof.Proof.Phases
public import Idealize.ShloMosaic.Lib.Ring
public import Idealize.ShloMosaic.Lib.Pipeline.BigSepL

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)
open Idealize.ShloMosaic.Pipeline (Dat Cfg Window BodyObligation cellOf)

variable {F : FTy → Type} [FloatOps F]

local notation "𝕄" => MT nD τ sig Unit (Elt F) ℕ UU ℕ

variable (A : Dev nD → Vec F S768x384 .bf16) (B : Dev nD → Vec F S384x768 .bf16) (K : Dev nD × Option Key → ℕ)

/-! ## The stages, all chunks -/

abbrev all6 : List (Fin 6) := [0, 1, 2, 3, 4, 5]
/-- The transfers of stage 3, of stages 2 and 3, and of stages 1 to 3. -/
abbrev later3 : List Xfer := all6.map (fun i => (3, i)) ++ []
abbrev later2 : List Xfer := all6.map (fun i => (2, i)) ++ later3
abbrev later1 : List Xfer := all6.map (fun i => (1, i)) ++ later2

theorem order_eq : order = all6.map (fun i => (0, i)) ++ later1 := by decide
theorem later3_gt : ∀ p ∈ later3, (2 : Fin 4) < p.1 := by decide
theorem later2_gt : ∀ p ∈ later2, (1 : Fin 4) < p.1 := by decide

/-- A loop over a list of chunks, under the records. -/
theorem runs_loop {c : Dev nD} {f : Fin 6 → P F PUnit} {pre post : Fin 6 → sProp 𝕄} {I : List (Fin 6) → sProp 𝕄} (l : List (Fin 6))
    (h : ∀ i l, Runs c iprop(records A B K ∗ pre i ∗ I (i :: l)) (f i) iprop(post i ∗ I l)) :
    Runs c iprop(records A B K ∗ bigSepL l pre ∗ I l) (each f l) iprop(records A B K ∗ bigSepL l post ∗ I []) := by
  refine ((Runs.each (R := records A B K) l h).frame (records A B K)).conseq ?_ ?_
  · iintro ⟨#H, H1, H2⟩
    iframe H
    iframe
  · iintro ⟨⟨H1, H2⟩, H3⟩
    iframe

/-- The waits of the gather and for the sends, after the last send. -/
theorem runs_tail (c : Dev nD) :
    Runs c iprop(records A B K ∗ bigSepL all6 (st4 A B c) ∗ Owing c [])
      (do each (fun i => recv3 c i) all6
          each (fun i => sent0 c i) all6
          each (fun i => sent1 c i) all6
          each (fun i => sent2 c i) all6
          each (fun i => sent3 c i) all6)
      iprop(records A B K ∗ bigSepL all6 (st9 A B c) ∗ Owing c []) :=
  Runs.bind (runs_loop A B K (I := fun _ => Owing c []) all6 fun i l => runs_phase4 A B K c i l)
    (Runs.bind (runs_loop A B K (I := fun _ => Owing c []) all6 fun i l => runs_phase5 A B K c i l)
    (Runs.bind (runs_loop A B K (I := fun _ => Owing c []) all6 fun i l => runs_phase6 A B K c i l)
    (Runs.bind (runs_loop A B K (I := fun _ => Owing c []) all6 fun i l => runs_phase7 A B K c i l)
    (runs_loop A B K (I := fun _ => Owing c []) all6 fun i l => runs_phase8 A B K c i l))))

/-- The two reductions and the gather's second send. -/
theorem runs_middle (c : Dev nD) :
    Runs c iprop(records A B K ∗ bigSepL all6 (st1 A B c) ∗ stageDebt c 1 later2 all6)
      (do each (fun i => do recv0 c i; red0 c i; send1 c i) all6
          each (fun i => do recv1 c i; red1 c i; send2 c i) all6
          each (fun i => do recv2 c i; send3 c i) all6
          each (fun i => recv3 c i) all6
          each (fun i => sent0 c i) all6
          each (fun i => sent1 c i) all6
          each (fun i => sent2 c i) all6
          each (fun i => sent3 c i) all6)
      iprop(records A B K ∗ bigSepL all6 (st9 A B c) ∗ Owing c []) :=
  Runs.bind (runs_loop A B K (I := stageDebt c 1 later2) all6 fun i l => runs_phase1 A B K c later2 later2_gt i l)
    (Runs.bind ((runs_loop A B K (I := stageDebt c 2 later3) all6 fun i l => runs_phase2 A B K c later3 later3_gt i l).conseq (Entails.of_eq rfl) .rfl)
    (Runs.bind ((runs_loop A B K (I := stageDebt c 3 []) all6 fun i l => runs_phase3 A B K c [] (fun _ h => nomatch h) i l).conseq (Entails.of_eq rfl) .rfl)
      ((runs_tail A B K c).conseq (Entails.of_eq rfl) .rfl)))

/-! ## The two ends -/

omit [FloatOps F] in
/-- All transfers, chunk by chunk. -/
theorem xfers_eq (g : Xfer → sProp 𝕄) :
    bigSep Finset.univ g = bigSepL all6 fun i => iprop(g (0, i) ∗ g (1, i) ∗ g (2, i) ∗ g (3, i)) := by
  rw [bigSep_univ_prod, BI.bigSep_univ_comm, bigSep_univ_eq_bigSepL all6 (by decide) (by decide)]
  refine congrArg (bigSepL all6) (funext fun i => ?_)
  rw [bigSep_univ_eq_bigSepL [0, 1, 2, 3] (by decide) (by decide)]
  rfl

omit [FloatOps F] in
theorem chunks_eq (g : Fin 6 → sProp 𝕄) : bigSep Finset.univ g = bigSepL all6 g := bigSep_univ_eq_bigSepL all6 (by decide) (by decide) g

omit [FloatOps F] in
theorem listSep_sep (l : List (Fin 6)) (f g : Fin 6 → sProp 𝕄) : bigSepL l (fun i => iprop(f i ∗ g i)) = iprop(bigSepL l f ∗ bigSepL l g) := by
  induction l with
  | nil => exact (equiv_iff.mp sep_emp).symm
  | cons i l ih =>
    rw [listSep_cons, listSep_cons, listSep_cons, ih]
    have h (P Q R S : sProp 𝕄) : iprop((P ∗ Q) ∗ R ∗ S) ⊢ iprop((P ∗ R) ∗ Q ∗ S) := by
      iintro ⟨⟨H1, H2⟩, H3, H4⟩
      iframe
    exact (h _ _ _ _).antisymm (h _ _ _ _)

theorem chunks_ne (i j : Fin 6) (h : i ≠ j) : Disjoint (reg 0 768 (col i)) (reg 0 768 (col j)) := chunks_disjoint (Set.mem_univ i) (Set.mem_univ j) h
theorem slabs1_ne (i j : Fin 6) (h : i ≠ j) : Disjoint (slab1 i) (slab1 j) := slabs1_disjoint (Set.mem_univ i) (Set.mem_univ j) h
theorem slabs2_ne (i j : Fin 6) (h : i ≠ j) : Disjoint (slab2 i) (slab2 j) := slabs2_disjoint (Set.mem_univ i) (Set.mem_univ j) h

/-- The result's staging buffer, holding anything, is the owned quarters and the landing places of the gather. -/
theorem split_out (c : Dev nD) (f : Buf (Elt F) (oL c)) :
    (oL c ↦{fullShare} f) ⊢ (bigSepL all6 fun i => iprop(mineO c i ∗ slot c (2, i) ∗ slot c (3, i)) : sProp 𝕄) := by
  rw [pointsTo_blocks (ℓ := oL c) (fun i => reg 0 768 (col i)) chunks_ne chunks_cover f, chunks_eq]
  refine bigSepL_mono fun i _ => ?_
  unfold mineO slot
  dsimp only
  have hd := halves_disjoint i c
  rw [halves_union i c]
  rw [quarters_union i c] at hd ⊢
  iintro H
  ihave H := (pointsTo_union hd).1 $$ H
  icases H with ⟨H, H3⟩
  ihave H := (pointsTo_union (quarters_disjoint i c)).1 $$ H
  icases H with ⟨H1, H2⟩
  isplitl [H1]
  · iexists f; iexact H1
  isplitl [H2]
  · iexists f; iexact H2
  · iexists f; iexact H3

theorem split_stage (c : Dev nD) (f : Buf (Elt F) (gL c)) : (gL c ↦{fullShare} f) ⊢ (bigSepL all6 fun i => chunkG c i : sProp 𝕄) := by
  rw [pointsTo_blocks (ℓ := gL c) (fun i => reg 0 768 (col i)) chunks_ne chunks_cover f, chunks_eq]
  refine bigSepL_mono fun i _ => ?_
  unfold chunkG
  iintro H
  iexists f
  iexact H

theorem split_r1 (c : Dev nD) (f : Buf (Elt F) (r1L c)) : (r1L c ↦{fullShare} f) ⊢ (bigSepL all6 fun i => slot c (0, i) : sProp 𝕄) := by
  rw [pointsTo_blocks (ℓ := r1L c) slab1 slabs1_ne slabs1_cover f, chunks_eq]
  refine bigSepL_mono fun i _ => ?_
  unfold slot
  iintro H
  iexists f
  iexact H

theorem split_r2 (c : Dev nD) (f : Buf (Elt F) (r2L c)) : (r2L c ↦{fullShare} f) ⊢ (bigSepL all6 fun i => slot c (1, i) : sProp 𝕄) := by
  rw [pointsTo_blocks (ℓ := r2L c) slab2 slabs2_ne slabs2_cover f, chunks_eq]
  refine bigSepL_mono fun i _ => ?_
  unfold slot
  iintro H
  iexists f
  iexact H

theorem join_all_stage (c : Dev nD) (f₀ : Buf (Elt F) (gL c)) : (bigSepL all6 fun i => chunkG c i : sProp 𝕄) ⊢ iprop(∃ g, gL c ↦{fullShare} g) := by
  rw [← chunks_eq]
  exact pointsTo_blocks_join_exists (ℓ := gL c) (fun i => reg 0 768 (col i)) chunks_ne chunks_cover f₀

theorem join_all_r1 (c : Dev nD) (f₀ : Buf (Elt F) (r1L c)) : (bigSepL all6 fun i => slot c (0, i) : sProp 𝕄) ⊢ iprop(∃ g, r1L c ↦{fullShare} g) := by
  rw [← chunks_eq]
  exact pointsTo_blocks_join_exists (ℓ := r1L c) slab1 slabs1_ne slabs1_cover f₀

theorem join_all_r2 (c : Dev nD) (f₀ : Buf (Elt F) (r2L c)) : (bigSepL all6 fun i => slot c (1, i) : sProp 𝕄) ⊢ iprop(∃ g, r2L c ↦{fullShare} g) := by
  rw [← chunks_eq]
  exact pointsTo_blocks_join_exists (ℓ := r2L c) slab2 slabs2_ne slabs2_cover f₀

theorem join_all_out (c : Dev nD) : (bigSepL all6 fun i => doneO A B c i : sProp 𝕄) ⊢ (oL c ↦{fullShare} (out A B : Buf (Elt F) (oL c))) := by
  rw [pointsTo_blocks (ℓ := oL c) (fun i => reg 0 768 (col i)) chunks_ne chunks_cover (out A B : Buf (Elt F) (oL c)), chunks_eq]
  exact .rfl

/-! ## The whole program -/

abbrev aL (c : Dev nD) : Loc nD τ sig := (c : Thread nD τ).loc cc0_stg0_0

/-- Device `c`'s positions, duty tokens and credits at the start. -/
def linear (c : Dev nD) : sProp 𝕄 :=
  iprop(atPos ER (barCell c) 0 ∅ 0 ∗ dutyTok ER (barCell (nb 0 c)) 0 0 ∗ dutyTok ER (barCell (nb 1 c)) 0 1 ∗ cred (tallyAt (barCell c) () 2)
    ∗ bigSep Finset.univ fun p : Xfer => toks c p)

/-- What device `c`'s program starts from, -/
def first (c : Dev nD) : sProp 𝕄 :=
  iprop(records A B K ∗ linear c ∗ (∃ W, owes (c : Thread nD τ) (O₀ c) W)
    ∗ (aL c ↦{fullShare} (A c : Buf (Elt F) (aL c))) ∗ argB B c
    ∗ (∃ f : Buf (Elt F) (gL c), gL c ↦{fullShare} f) ∗ (∃ f : Buf (Elt F) (r1L c), r1L c ↦{fullShare} f) ∗ (∃ f : Buf (Elt F) (r2L c), r2L c ↦{fullShare} f)
    ∗ (∃ f : Buf (Elt F) (oL c), oL c ↦{fullShare} f))
/-- and what it ends in. -/
def last (c : Dev nD) : sProp 𝕄 :=
  iprop((semVal (barCell c) 0 ∗ bigSep Finset.univ fun p : Xfer => closed c p) ∗ Owing c []
    ∗ (aL c ↦{fullShare} (A c : Buf (Elt F) (aL c))) ∗ argB B c
    ∗ (∃ f : Buf (Elt F) (gL c), gL c ↦{fullShare} f) ∗ (∃ f : Buf (Elt F) (r1L c), r1L c ↦{fullShare} f) ∗ (∃ f : Buf (Elt F) (r2L c), r2L c ↦{fullShare} f)
    ∗ (oL c ↦{fullShare} (out A B : Buf (Elt F) (oL c))))

/-- From the first send on: chunk 0's product is there, the neighbours are ready. -/
theorem runs_rest (c : Dev nD) :
    Runs c iprop(records A B K ∗ (keptK A B c 0 ∗ lent A B c (0, 0) ∗ mineO c 0 ∗ ready c (0, 0) ∗ ready c (1, 0) ∗ ready c (2, 0) ∗ ready c (3, 0))
        ∗ bigSepL [1, 2, 3, 4, 5] (st0 c) ∗ argB B c ∗ Owing c order)
      (do send0 c 0
          each (fun i => do comp (A c) i; send0 c i) [1, 2, 3, 4, 5]
          each (fun i => do recv0 c i; red0 c i; send1 c i) all6
          each (fun i => do recv1 c i; red1 c i; send2 c i) all6
          each (fun i => do recv2 c i; send3 c i) all6
          each (fun i => recv3 c i) all6
          each (fun i => sent0 c i) all6
          each (fun i => sent1 c i) all6
          each (fun i => sent2 c i) all6
          each (fun i => sent3 c i) all6)
      iprop(bigSepL all6 (stEnd A B c) ∗ argB B c ∗ Owing c []) := by
  rw [order_eq]
  refine Runs.bind (((runs_start0 A B K c 0 [1, 2, 3, 4, 5] later1).frame iprop(records A B K ∗ bigSepL [1, 2, 3, 4, 5] (st0 c) ∗ argB B c)).conseq ?_ .rfl)
    (Runs.bind (((runs_loop A B K (I := fun l => iprop(argB B c ∗ stageDebt c 0 later1 l)) [1, 2, 3, 4, 5] fun i l => runs_phase0 A B K c later1 i l).frame
        (st1 A B c 0)).conseq ?_ .rfl)
      (((runs_middle A B K c).frame (argB B c)).conseq ?_ ?_))
  · unfold stageDebt
    iintro ⟨#H1, H2, H3, H4, H5⟩
    iframe H1
    iframe
  · iintro ⟨⟨H1, H2⟩, H3, H4, H5⟩
    iframe
  · iintro ⟨⟨H1, H2, H3, H4⟩, H5⟩
    rw [listSep_cons 0]
    iframe
    iexact H4
  · iintro ⟨⟨H1, H2, H3⟩, H4⟩
    ihave H2 := (bigSepL_mono fun i _ => st9_end A B c i) $$ H2
    iframe

/-- The four buffers a device gives parts of away, as the chunks need them and as its signals hand them over. -/
theorem open_buffers (c : Dev nD) :
    iprop((∃ f : Buf (Elt F) (gL c), gL c ↦{fullShare} f) ∗ (∃ f : Buf (Elt F) (r1L c), r1L c ↦{fullShare} f) ∗ (∃ f : Buf (Elt F) (r2L c), r2L c ↦{fullShare} f)
      ∗ (∃ f : Buf (Elt F) (oL c), oL c ↦{fullShare} f))
    ⊢ (iprop((bigSepL all6 (chunkG c) ∗ bigSepL all6 (mineO c)) ∗ barPay 0 (nb 0 c) ∗ barPay 1 (nb 1 c)) : sProp 𝕄) := by
  rw [← barPay_own, xfers_eq, listSep_sep, listSep_sep, listSep_sep]
  iintro ⟨⟨%f, Hg⟩, ⟨%f1, H1⟩, ⟨%f2, H2⟩, ⟨%f3, Ho⟩⟩
  ihave Hg := (split_stage c f) $$ Hg
  ihave H1 := (split_r1 c f1) $$ H1
  ihave H2 := (split_r2 c f2) $$ H2
  ihave Ho := (split_out c f3) $$ Ho
  ihave Ho := (Entails.of_eq ((listSep_sep all6 _ _).trans (congrArg _ (listSep_sep all6 _ _)))) $$ Ho
  icases Ho with ⟨H3, H4, H5⟩
  iframe

theorem read_A (c : Dev nD) :
    aM.view.readAt (Elt F) (Rect.unit (s := S768x384) ![0, 0] S768x384.size inb_S768x384_S768x384_0_0).toLoadRect (A c) = A c :=
  Memref.readAt_unit_zero (Elt F) cc0_stg0_0 (by decide) _ (A c)

theorem runs_prog (c : Dev nD) : Runs c (first A B K c) (prog c) (last A B c) := fun Kt => by
  unfold prog first linear
  simp only [semSignalWord, semWaitWord, Prog.lift, Prog.bind_op, Prog.bind_ret]
  iintro ⟨⟨#HR, ⟨HatB, Ht0, Ht1, HcB, Htoks⟩, ⟨%W, HO⟩, Ha, Hb, Hbufs⟩, Hk⟩
  ihave Hbufs := (open_buffers c) $$ Hbufs
  icases Hbufs with ⟨⟨Hg, Hm⟩, Hp0, Hp1⟩
  ihave Htoks := (Entails.of_eq (xfers_eq _)) $$ Htoks
  ihave #HI := (records_inv A B K (c, none)) $$ HR
  ihave #HI0 := (records_inv A B K (nb 0 c, none)) $$ HR
  ihave #HI1 := (records_inv A B K (nb 1 c, none)) $$ HR
  ihave #Hr0 := (records_reached A B K (nb 0 c, none)) $$ HR
  ihave #Hr1 := (records_reached A B K (nb 1 c, none)) $$ HR
  ihave #Hlev := (records_levs A B K) $$ HR
  unfold O₀
  iapply (Rounds.wp_signal 𝒱₀ ER (Rd A B) (c : Thread nD τ) none (dst := (nb 0 c : Thread nD τ)) (κ := K (nb 0 c, none))
      (d := 0) (by rw [duties_bar]; exact Finset.mem_univ _) ((amount_bar A B (nb 0 c) 0).trans (by decide)) () (O₁ c) rfl)
    $$ [HO Ht0 Hp0]
  · isplitr; · iexact HI0
    isplitl [HO]; · iexact HO
    isplitl [Ht0]; · iexact Ht0
    isplitl [Hp0]; · rw [payload_bar]; iexact Hp0
    iexact Hr0
  iintro HO
  unfold O₁
  iapply (Rounds.wp_signal 𝒱₀ ER (Rd A B) (c : Thread nD τ) none (dst := (nb 1 c : Thread nD τ)) (κ := K (nb 1 c, none))
      (d := 1) (by rw [duties_bar]; exact Finset.mem_univ _) ((amount_bar A B (nb 1 c) 1).trans (by decide)) () (owed c order) rfl)
    $$ [HO Ht1 Hp1]
  · isplitr; · iexact HI1
    isplitl [HO]; · iexact HO
    isplitl [Ht1]; · iexact Ht1
    isplitl [Hp1]; · rw [payload_bar]; iexact Hp1
    iexact Hr1
  iintro HO
  iapply (wp_load 𝒱₀ (c : Thread nD τ) none Set.univ (m := aM) (Finset.subset_univ _)) $$ Ha
  iintro Ha
  rw [read_A, wp_bind]
  ihave Hg := (Entails.of_eq (listSep_cons 0 [1, 2, 3, 4, 5] _)) $$ Hg
  ihave Hm := (Entails.of_eq (listSep_cons 0 [1, 2, 3, 4, 5] _)) $$ Hm
  icases Hg with ⟨Hg0, Hg⟩
  icases Hm with ⟨Hm0, Hm⟩
  iapply (runs_comp A B c 0 _)
  isplitl [Hg0 Hb]
  · iframe
  iintro ⟨⟨Hk0, Hl0⟩, Hb⟩
  iapply (Rounds.wp_wait_rest_token 𝒱₀ ER (Rd A B) (c : Thread nD τ) none (κ := K (c, none))
      (wpE_semWait_eq 𝒱₀ (c : Thread nD τ) none Set.univ) (Set.mem_univ _) () (O := owed c order) (W := W) (R := 0) (m := 0) (T := ∅)
      (by rw [expect_bar]; decide)) $$ [HcB HO HatB]
  · isplitr; · iexact HI
    isplitl [HcB]; · iexact HcB
    isplitl [HO]; · iexact HO
    isplitr
    · iapply (mayWait_owed c (.reg barS) 1 (lv_bar c) order (fun p _ => by omega)); iexact Hlev
    iexact HatB
  iintro ⟨HO, HatB, -, Hpay⟩
  imod (Rounds.cell_close ER (Rd A B) (Set.mem_univ (K (c, none))) (fun h => h) (R := 0 + 1) (duties_later A B (barCell c))) $$ [HatB] with HzB
  · isplitr; · iexact HI
    iexact HatB
  ihave Hp := (Entails.of_eq ((rest_bar A B c).trans ((barPay_both c).trans (xfers_eq _)))) $$ Hpay
  ihave Hp := (Entails.of_eq (listSep_cons 0 [1, 2, 3, 4, 5] _)) $$ Hp
  ihave Htoks := (Entails.of_eq (listSep_cons 0 [1, 2, 3, 4, 5] _)) $$ Htoks
  icases Hp with ⟨⟨S0, S1, S2, S3⟩, Hp⟩
  icases Htoks with ⟨⟨T0, T1, T2, T3⟩, Htoks⟩
  iapply (runs_rest A B K c _)
  isplitr [Hk Ha HzB]
  · isplitr; · iexact HR
    isplitl [Hk0 Hl0 Hm0 S0 S1 S2 S3 T0 T1 T2 T3]
    · unfold ready
      iframe
    isplitl [Hg Hm Hp Htoks]
    · unfold st0 ready
      simp only [listSep_sep]
      icases Hp with ⟨S0, S1, S2, S3⟩
      icases Htoks with ⟨T0, T1, T2, T3⟩
      iframe
    isplitl [Hb]; · iexact Hb
    unfold Owing
    iexists _
    iexact HO
  iintro ⟨Hend, Hb, HO⟩
  iapply Hk
  unfold last
  unfold stEnd
  ihave Hend := (Entails.of_eq (show _ = iprop(_ ∗ _ ∗ _ ∗ _ ∗ _) from by rw [listSep_sep, listSep_sep, listSep_sep, listSep_sep])) $$ Hend
  icases Hend with ⟨E1, E2, E3, E4, E5⟩
  isplitl [HzB E5]
  · isplitl [HzB]; · iexact HzB
    rw [xfers_eq]
    iexact E5
  isplitl [HO]; · iexact HO
  isplitl [Ha]; · iexact Ha
  isplitl [Hb]; · iexact Hb
  isplitl [E1]; · iapply (join_all_stage c (own A B c)); iexact E1
  isplitl [E3]; · iapply (join_all_r1 c (land1 A B c)); iexact E3
  isplitl [E4]; · iapply (join_all_r2 c (land2 A B c)); iexact E4
  iapply (join_all_out A B c); iexact E2

end Cert.AllReduce

end
-- ==== Proof.Ghost.lean ====
/-
# Dealing out the ghost state

What the launch mints for every cell - the round state, a position, the duty tokens - goes to the devices that use it:
a barrier duty's token to the neighbour that signals, a receive cell's token to the transfer's source. And what each
cell is owed in total is what its device waits for.
-/
module

public import proofs.«01_k».proof.Proof.Body
public import Idealize.ShloMosaic.Lib.Ring
public import Idealize.ShloMosaic.Lib.Pipeline.BigSepL

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)
open Idealize.ShloMosaic.Pipeline (Dat Cfg Window BodyObligation cellOf)

variable {F : FTy → Type} [FloatOps F]

local notation "𝕄" => MT nD τ sig Unit (Elt F) ℕ UU ℕ

variable (A : Dev nD → Vec F S768x384 .bf16) (B : Dev nD → Vec F S384x768 .bf16)

theorem ownSemFacts : Pipeline.OwnSemFacts cfg0.spec osem := by decide +kernel

/-! ## The cells -/

theorem kcell_injective : Function.Injective (kcell : Dev nD × Option Key → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def allCells : Finset (GSem nD τ sig) := Finset.univ.map ⟨kcell, kcell_injective⟩

/-- The duties of a device's own cells: its barrier's two, and one per transfer cell. -/
abbrev Duty : Type := Fin 2 ⊕ Key
def tokOf : Dev nD × Duty → GSem nD τ sig × ℕ × Fin 2
  | (c, .inl d) => (barCell c, 0, d)
  | (c, .inr k) => (xcell c k, 0, 0)
theorem tokOf_injective : Function.Injective tokOf := by
  rintro ⟨c, j⟩ ⟨c', j'⟩ h
  have hc : c = c' := by
    have := congrArg (fun x : GSem nD τ sig × ℕ × Fin 2 => x.1.1.1) h
    rcases j with d | k <;> rcases j' with d' | k' <;> exact this
  subst hc
  rcases j with d | k <;> rcases j' with d' | k'
  · have : d = d' := congrArg (fun x : GSem nD τ sig × ℕ × Fin 2 => x.2.2) h
    rw [this]
  · exact absurd (congrArg (fun x : GSem nD τ sig × ℕ × Fin 2 => x.1.2) h) (fun h' => by cases h')
  · exact absurd (congrArg (fun x : GSem nD τ sig × ℕ × Fin 2 => x.1.2) h) (fun h' => by cases h')
  · have : osem k = osem k' := congrArg (fun x : GSem nD τ sig × ℕ × Fin 2 => x.1.2) h
    rw [osem_injective this]
def allToks : Finset (GSem nD τ sig × ℕ × Fin 2) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def minted (c : Dev nD) : sProp 𝕄 :=
  iprop((bigSep Finset.univ fun d : Fin 2 => dutyTok ER (barCell c) 0 d) ∗ bigSep Finset.univ fun k : Key => dutyTok ER (xcell c k) 0 0)

/-- What the launch deals device `c`. -/
def G (c : Dev nD) : sProp 𝕄 :=
  iprop((bigSep Finset.univ fun k : Option Key => roundState ER (Rd A B) (kcell (c, k)) 0)
    ∗ (bigSep Finset.univ fun k : Option Key => iprop(atPos ER (kcell (c, k)) 0 ∅ 0 ∗ reached ER (kcell (c, k)) 0)) ∗ minted c)

theorem fund : BI.own (ER (initOf allCells allToks)) ⊢ (|==> bigSep Finset.univ (G A B) : sProp 𝕄) := by
  have hX (Φ : GSem nD τ sig → sProp 𝕄) : bigSep allCells Φ = bigSep Finset.univ fun c : Dev nD => bigSep Finset.univ fun k : Option Key => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => by rw [bigSep_univ_sum]; rfl
  iintro HX
  imod (Rounds.fund ER (Rd A B) allCells allToks) $$ HX with ⟨Hst, Hr, Hat, Htok⟩
  imodintro
  ihave Hst' := (Entails.of_eq (hX fun g => roundState ER (Rd A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## A device's semaphores at zero -/

theorem bigSep_opt {I : Type} [Fintype I] [DecidableEq I] (Φ : Option I → sProp 𝕄) :
    bigSep Finset.univ Φ = iprop(Φ none ∗ bigSep Finset.univ fun i : I => Φ (some i)) := by
  rw [bigSep_univ_at Φ none, show (Finset.univ.erase (none : Option I)) = Finset.univ.map Function.Embedding.some from ?_, bigSep_map]
  · rfl
  · ext x
    rcases x with _ | x <;> simp

theorem bigSep_keys (Φ : Key → sProp 𝕄) :
    bigSep Finset.univ Φ = iprop(bigSep Finset.univ fun p : Xfer => iprop(Φ (false, p) ∗ Φ (true, p))) := by
  rw [bigSep_univ_prod, bigSep_sep', show (Finset.univ : Finset Bool) = {false, true} from by decide, BI.bigSep_insert (by decide), bigSep_singleton]
  rfl

theorem ownSems0_eq (c : Dev nD) : (Pipeline.ownSems0 (Ix := Unit) (Name := ℕ) (U := UU) (Lvl := ℕ) (Val := Elt F) (τ := τ) osem c : sProp 𝕄)
    = bigSep Finset.univ fun p : Xfer => closed c p := by
  unfold Pipeline.ownSems0
  rw [bigSep_keys]
  rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option Key => semVal (kcell (c, k)) 0 : sProp 𝕄) := by
  rw [unscopedSems0_eq, bigSep_opt]
  unfold Pipeline.ownSems0
  iintro ⟨HS, HB⟩
  isplitl [HB]; · iexact HB
  iexact HS

/-! ## The invariants, and who gets what -/

/-- What one device's allocation leaves. -/
def alloced (c : Dev nD) : sProp 𝕄 :=
  iprop((bigSep Finset.univ fun k : Option Key => iprop(∃ κ : ℕ, cellInv ER (Rd A B) κ (kcell (c, k))))
    ∗ (bigSep Finset.univ fun k : Option Key => iprop(atPos ER (kcell (c, k)) 0 ∅ 0 ∗ reached ER (kcell (c, k)) 0)) ∗ minted c)

theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> alloced A B c := by
  have hinv : iprop((bigSep Finset.univ fun k : Option Key => semVal (kcell (c, k)) 0) ∗ bigSep Finset.univ fun k : Option Key => roundState ER (Rd A B) (kcell (c, k)) 0)
      ⊢ (|={Set.univ}=> bigSep Finset.univ fun k : Option Key => iprop(∃ κ : ℕ, cellInv ER (Rd A B) κ (kcell (c, k))) : sProp 𝕄) := by
    rw [← bigSep_sep']
    exact (bigSep_mono fun k _ => (Rounds.body_intro ER (Rd A B) (kcell (c, k))).trans inv_alloc).trans (bigSep_fupd _ _)
  unfold G alloced
  iintro ⟨Hos, Hus, Hst, Hat, Htok⟩
  ihave Hv := (sems0_eq (F := F) c) $$ [Hos Hus]
  · isplitl [Hos]; · iexact Hos
    iexact Hus
  imod hinv $$ [Hv Hst] with Hinv
  · isplitl [Hv]; · iexact Hv
    iexact Hst
  imodintro
  isplitl [Hinv]; · iexact Hinv
  isplitl [Hat]; · iexact Hat
  iexact Htok

/-- What a device holds of transfer `p`: the positions at its two cells, and the tokens it pays with. -/
def held (c : Dev nD) (p : Xfer) : sProp 𝕄 :=
  iprop(atPos ER (scell c p) 0 ∅ 0 ∗ atPos ER (rcell c p) 0 ∅ 0 ∗ dutyTok ER (scell c p) 0 0 ∗ dutyTok ER (rcell (tgt p.1 p.2 c) p) 0 0)
/-- And in all. -/
def dealt (c : Dev nD) : sProp 𝕄 :=
  iprop(atPos ER (barCell c) 0 ∅ 0 ∗ dutyTok ER (barCell (nb 0 c)) 0 0 ∗ dutyTok ER (barCell (nb 1 c)) 0 1 ∗ bigSep Finset.univ fun p : Xfer => held c p)

/-- The records but for the levels. -/
def marks (K : Dev nD × Option Key → ℕ) : sProp 𝕄 :=
  iprop((bigSep Finset.univ fun ck : Dev nD × Option Key => cellInv ER (Rd A B) (K ck) (kcell ck))
    ∗ bigSep Finset.univ fun ck : Dev nD × Option Key => reached ER (kcell ck) 0)
instance marks_persistent (K : Dev nD × Option Key → ℕ) : BI.Persistent (marks A B K) := by unfold marks; infer_instance

def G' (c : Dev nD) : sProp 𝕄 := iprop(∃ K, marks A B K ∗ dealt c)

def nbE (d : Fin 2) : Dev nD ≃ Dev nD := ⟨nb d, nb d, nb_nb d, nb_nb d⟩
def tgtE (p : Xfer) : Dev nD ≃ Dev nD := ⟨tgt p.1 p.2, tgt p.1 p.2, tgt_tgt p.1 p.2, tgt_tgt p.1 p.2⟩

/-- The tokens of the duties device `c` pays. -/
def pays (c : Dev nD) : sProp 𝕄 :=
  iprop(dutyTok ER (barCell (nb 0 c)) 0 0 ∗ dutyTok ER (barCell (nb 1 c)) 0 1
    ∗ (bigSep Finset.univ fun p : Xfer => dutyTok ER (scell c p) 0 0) ∗ bigSep Finset.univ fun p : Xfer => dutyTok ER (rcell (tgt p.1 p.2 c) p) 0 0)

/-- Every token goes to the device that pays with it. -/
theorem toks_around : (bigSep Finset.univ fun c : Dev nD => (minted c : sProp 𝕄)) = bigSep Finset.univ fun c : Dev nD => pays c := by
  have hb (d : Fin 2) : (bigSep Finset.univ fun c : Dev nD => (dutyTok ER (barCell c) 0 d : sProp 𝕄))
      = bigSep Finset.univ fun c : Dev nD => dutyTok ER (barCell (nb d c)) 0 d :=
    bigSep_univ_equiv (nbE d) _
  have hr : (bigSep Finset.univ fun c : Dev nD => bigSep Finset.univ fun p : Xfer => (dutyTok ER (rcell c p) 0 0 : sProp 𝕄))
      = bigSep Finset.univ fun c : Dev nD => bigSep Finset.univ fun p : Xfer => dutyTok ER (rcell (tgt p.1 p.2 c) p) 0 0 := by
    rw [BI.bigSep_univ_comm, BI.bigSep_univ_comm (fun (c : Dev nD) (p : Xfer) => (dutyTok ER (rcell (tgt p.1 p.2 c) p) 0 0 : sProp 𝕄))]
    exact bigSep_congr fun p _ => bigSep_univ_equiv (tgtE p) _
  have hm (c : Dev nD) : (minted c : sProp 𝕄) = iprop((dutyTok ER (barCell c) 0 0 ∗ dutyTok ER (barCell c) 0 1)
      ∗ (bigSep Finset.univ fun p : Xfer => dutyTok ER (scell c p) 0 0) ∗ bigSep Finset.univ fun p : Xfer => dutyTok ER (rcell c p) 0 0) := by
    unfold minted
    rw [bigSep_fin_two, bigSep_keys, bigSep_sep']
    rfl
  unfold pays
  rw [bigSep_congr fun c _ => hm c]
  simp only [bigSep_sep']
  rw [hb 0, hb 1, hr]
  have h₁ (P Q R : sProp 𝕄) : iprop((P ∗ Q) ∗ R) ⊢ iprop(P ∗ Q ∗ R) := by
    iintro ⟨⟨H1, H2⟩, H3⟩
    iframe
  have h₂ (P Q R : sProp 𝕄) : iprop(P ∗ Q ∗ R) ⊢ iprop((P ∗ Q) ∗ R) := by
    iintro ⟨H1, H2, H3⟩
    iframe
  exact (h₁ _ _ _).antisymm (h₂ _ _ _)

theorem dealt_eq (c : Dev nD) :
    iprop((bigSep Finset.univ fun k : Option Key => (atPos ER (kcell (c, k)) 0 ∅ 0 : sProp 𝕄)) ∗ pays c) ⊢ dealt c := by
  rw [bigSep_opt, bigSep_keys]
  unfold pays dealt held
  simp only [bigSep_sep']
  iintro ⟨⟨H1, H2, H3⟩, H4, H5, H6, H7⟩
  isplitl [H1]; · iexact H1
  isplitl [H4]; · iexact H4
  isplitl [H5]; · iexact H5
  isplitl [H2]; · iexact H2
  isplitl [H3]; · iexact H3
  isplitl [H6]; · iexact H6
  iexact H7

theorem regroup : (bigSep Finset.univ fun c : Dev nD => alloced A B c) ⊢ bigSep Finset.univ (G' A B) := by
  have hK : iprop((bigSep Finset.univ fun c : Dev nD => bigSep Finset.univ fun k : Option Key => (atPos ER (kcell (c, k)) 0 ∅ 0 : sProp 𝕄))
      ∗ bigSep Finset.univ fun c : Dev nD => pays c) ⊢ bigSep Finset.univ fun c : Dev nD => (dealt c : sProp 𝕄) :=
    (Entails.of_eq (bigSep_sep' _ _ _).symm).trans (bigSep_mono fun c _ => dealt_eq c)
  have hG (K : Dev nD × Option Key → ℕ) (c : Dev nD) : iprop(marks A B K ∗ dealt c) ⊢ G' A B c := by
    unfold G'
    iintro H
    iexists K
    iexact H
  unfold alloced
  rw [bigSep_sep', bigSep_sep', ← bigSep_univ_prod (fun ck : Dev nD × Option Key => iprop(∃ κ : ℕ, cellInv ER (Rd A B) κ (kcell ck))),
    bigSep_congr (s := Finset.univ) (fun (c : Dev nD) _ => bigSep_sep' Finset.univ (fun k : Option Key => (atPos ER (kcell (c, k)) 0 ∅ 0 : sProp 𝕄)) (fun k => reached ER (kcell (c, k)) 0)),
    bigSep_sep', ← bigSep_univ_prod (fun ck : Dev nD × Option Key => (reached ER (kcell ck) 0 : sProp 𝕄)), toks_around]
  iintro ⟨HI, ⟨Hat, #HR⟩, Htok⟩
  ihave HK := (BI.bigSep_exists_pi Finset.univ (fun (ck : Dev nD × Option Key) (κ : ℕ) => (cellInv ER (Rd A B) κ (kcell ck) : sProp 𝕄))) $$ HI
  icases HK with ⟨%K, #HI⟩
  ihave Hd := hK $$ [Hat Htok]
  · isplitl [Hat]; · iexact Hat
    iexact Htok
  iapply (bigSep_with_persistent (R := marks A B K) fun c _ => hG K c)
  isplitr
  · unfold marks
    isplitl; · iexact HI
    iexact HR
  · iexact Hd

/-- Every device's semaphores and minted state make every device's share. -/
theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

/-! ## What the cells are owed -/

omit [FloatOps F] in
theorem bar_eq_iff {a b : Dev nD} : Iff (barCell a = barCell b) (a = b) :=
  ⟨fun h => congrArg (fun g : GSem nD τ sig => g.1.1) h, fun h => h ▸ rfl⟩
theorem rcell_eq_iff {a b : Dev nD} {p q : Xfer} : Iff (rcell a p = rcell b q) (a = b ∧ p = q) := by
  constructor
  · intro h
    have h2 : osem (true, p) = osem (true, q) := congrArg (fun g : GSem nD τ sig => g.2) h
    exact ⟨congrArg (fun g : GSem nD τ sig => g.1.1) h, congrArg (fun k : Key => k.2) (osem_injective h2)⟩
  · rintro ⟨rfl, rfl⟩
    rfl
theorem rcell_ne_bar (a b : Dev nD) (p : Xfer) : rcell a p ≠ barCell b := fun h => by
  have := congrArg (fun g : GSem nD τ sig => g.2) h
  cases this

/-- The transfers owe the barrier nothing, -/
theorem owed_bar_zero (d c : Dev nD) (l : List Xfer) : owed d l (barCell c) () = 0 := by
  by_contra h
  obtain ⟨p, -, hp⟩ := owed_pos (Nat.pos_of_ne_zero h)
  exact rcell_ne_bar _ _ _ hp.symm
/-- and a receive cell what its own transfer credits, if that is still to be started. -/
theorem owed_rcell (d c : Dev nD) (p : Xfer) (l : List Xfer) (hl : l.Nodup) :
    owed d l (rcell c p) () = if p ∈ l ∧ d = tgt p.1 p.2 c then N p.1 else 0 := by
  induction l with
  | nil => rw [if_neg (fun h => absurd h.1 (List.not_mem_nil))]; rfl
  | cons q l ih =>
    have hq := (List.nodup_cons.mp hl).1
    unfold owed
    rw [Pi.add_apply, Finsupp.add_apply, ih (List.nodup_cons.mp hl).2, tallyAt_apply]
    by_cases hpq : p = q
    · subst hpq
      rw [if_neg (fun h => hq h.1), Nat.zero_add]
      by_cases hd : d = tgt p.1 p.2 c
      · subst hd
        rw [if_pos ⟨by rw [tgt_tgt], rfl⟩, if_pos ⟨List.mem_cons_self, rfl⟩]
      · rw [if_neg (fun h => hd (by rw [(rcell_eq_iff.mp h.1).1, tgt_tgt])), if_neg (fun h => hd h.2)]
    · rw [if_neg (c := _ ∧ _) (fun h => hpq (rcell_eq_iff.mp h.1).2), Nat.add_zero]
      refine if_congr ⟨fun h => ⟨List.mem_cons_of_mem _ h.1, h.2⟩, fun h => ⟨?_, h.2⟩⟩ rfl rfl
      exact (List.mem_cons.mp h.1).resolve_left hpq

theorem order_nodup : order.Nodup := by decide +kernel
theorem mem_order : ∀ p : Xfer, p ∈ order := by decide +kernel

theorem tally_bar (d c : Dev nD) (e : Fin 2) : (tallyAt (barCell (nb e d)) () 1 : CellTallies nD τ sig Unit) (barCell c) () = if d = nb e c then 1 else 0 := by
  rw [tallyAt_apply]
  by_cases h : d = nb e c
  · subst h; rw [nb_nb, if_pos ⟨rfl, rfl⟩, if_pos rfl]
  · rw [if_neg (fun h' => h (by rw [bar_eq_iff.mp h'.1, nb_nb])), if_neg h]

theorem owed_bar (d c : Dev nD) : O₀ d (barCell c) () = (if d = nb 1 c then 1 else 0) + (if d = nb 0 c then 1 else 0) := by
  unfold O₀ O₁
  rw [Pi.add_apply, Finsupp.add_apply, Pi.add_apply, Finsupp.add_apply, owed_bar_zero, Nat.zero_add, tally_bar, tally_bar]
theorem owed_recv (d c : Dev nD) (p : Xfer) : O₀ d (rcell c p) () = if d = tgt p.1 p.2 c then N p.1 else 0 := by
  unfold O₀ O₁
  rw [Pi.add_apply, Finsupp.add_apply, Pi.add_apply, Finsupp.add_apply, owed_rcell d c p order order_nodup,
    tallyAt_ne_cell (rcell_ne_bar _ _ _), tallyAt_ne_cell (rcell_ne_bar _ _ _), Finsupp.zero_apply, Nat.add_zero, Nat.add_zero]
  exact if_congr ⟨fun h => h.2, fun h => ⟨mem_order p, h⟩⟩ rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb 1 c) fun _ => 1, Finset.sum_ite_eq' Finset.univ (nb 0 c) fun _ => 1, if_pos (Finset.mem_univ _), if_pos (Finset.mem_univ _)]
theorem launch_recv (c : Dev nD) (p : Xfer) :
    tallyOn (rcell c p) (launchCredit (Pipeline.owing O₀) 0 (rcell c p)) = (tallyAt (rcell c p) () (N p.1) : CellTallies nD τ sig Unit) := by
  unfold tallyAt; refine congrArg _ (Finsupp.ext fun u => ?_); cases u
  rw [Pipeline.launchCredit_owing, Finsupp.single_eq_same, Finset.sum_congr rfl fun d _ => owed_recv d c p, Finset.sum_ite_eq' Finset.univ (tgt p.1 p.2 c) fun _ => N p.1,
    if_pos (Finset.mem_univ _)]

theorem recvs_injective : Function.Injective (fun p : Xfer => osem (true, p)) := fun p q h => congrArg (fun k : Key => k.2) (osem_injective h)

/-- The credit device `c` is launched with: two units at its barrier, each receive cell's transfer. -/
theorem creds (c : Dev nD) :
    (Pipeline.launchCred O₀ c : sProp 𝕄) ⊢ iprop(cred (tallyAt (barCell c) () 2) ∗ bigSep Finset.univ fun p : Xfer => cred (tallyAt (rcell c p) () (N p.1))) := by
  unfold Pipeline.launchCred
  rw [bigSep_univ_at _ (SemLoc.reg barS), launch_bar]
  refine sep_mono_right ?_
  have h : Finset.univ.map ⟨fun p : Xfer => osem (true, p), recvs_injective⟩ ⊆ Finset.univ.erase (SemLoc.reg barS : SemLoc sig) := fun sm hsm => by
    obtain ⟨p, -, hp⟩ := Finset.mem_map.mp hsm
    exact Finset.mem_erase.mpr ⟨fun h => (by cases hp.trans h), Finset.mem_univ _⟩
  rw [← bigSep_congr (s := Finset.univ) fun (p : Xfer) _ => congrArg (fun x => (cred x : sProp 𝕄)) (launch_recv c p)]
  exact (bigSep_subset h).trans (Entails.of_eq (bigSep_map _))

end Cert.AllReduce

end
-- ==== Proof.ProgramEq.lean ====
/-
# The printed kernel is the program in loops
-/
module

public import proofs.«01_k».proof.Proof.Program

@[expose] public section

noncomputable section

namespace Cert.AllReduce

open Cert.KernelIdeal Cert.KernelIdeal.Gen
open Idealize.ShloMosaic Idealize.SL.Sem

variable {F : FTy → Type} [FloatOps F]

set_option maxRecDepth 65536 in
set_option maxHeartbeats 4000000 in
/-- The printed kernel is `prog` at the device it runs on. -/
theorem body_eq : cc0_body (F := F) aM aW bM bW oM oW gM gW r1M r1W r2M r2W cc0_scratch3 cc0_scratch4
    = (do let c : Dev nD ← Prog.lift .deviceId; prog c) := by
  rw [cc0_body_eq_skeleton]
  rfl

end Cert.AllReduce

end
-- ==== Proof.Launch.lean ====
/-
# The whole program's run

From any memory with zero counters, over any float values: the program terminates, every device's result array holds
the reduced product, the arguments are unchanged and every counter is zero again.
-/
module

public import proofs.«01_k».proof.Proof.Ghost
public import proofs.«01_k».proof.Proof.ProgramEq
public import proofs.«01_k».proof.Proof.Gen.KernelIdeal.Points
public import Idealize.ShloMosaic.Lib.Pipeline.ValueKit.Geometry
public import Idealize.ShloMosaic.Lib.Pipeline.CollectiveSegs
public import Idealize.ShloMosaic.Lib.Ring
public import Idealize.ShloMosaic.Lib.Pipeline.BigSepL

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The blocks the devices are launched with. -/
def Aat (c : Dev nD) : Vec F S768x384 .bf16 := m ((c : Thread nD τ).loc main_arg0)
def Bat (c : Dev nD) : Vec F S384x768 .bf16 := m ((c : Thread nD τ).loc main_arg1)
/-- The result every device ends with. -/
def result : Vec F S768x768 .bf16 := out (Aat m) (Bat m)

/-! ## The pipeline's proof data -/

/-- What device `c`'s body starts from besides its buffers. -/
def start (c : Dev nD) : sProp 𝕄 := iprop(∃ K, records (Aat m) (Bat m) K ∗ linear c)
/-- The scratch buffers, holding anything. -/
def scratch (c : Dev nD) : sProp 𝕄 :=
  iprop((∃ f : Buf (Elt F) (gL c), gL c ↦{fullShare} f) ∗ (∃ f : Buf (Elt F) (r1L c), r1L c ↦{fullShare} f) ∗ (∃ f : Buf (Elt F) (r2L c), r2L c ↦{fullShare} f))
/-- All semaphores at zero. -/
def zeros (c : Dev nD) : sProp 𝕄 := iprop(semVal (barCell c) 0 ∗ bigSep Finset.univ fun p : Xfer => closed c p)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Aat m c
    | ⟨1, _⟩ => Bat m c
    | ⟨2, _⟩ => result m
  Φ t := match t with
    | ⟨0, _⟩ => iprop(start m c ∗ scratch c)
    | ⟨_ + 1, _⟩ => iprop(zeros c ∗ scratch c)
  q _ := fullShare
  owed t := match t with
    | ⟨0, _⟩ => O₀ c
    | ⟨_ + 1, _⟩ => 0

theorem blk_arg0 (c : Dev nD) (t : Fin cfg0.N) : ((cfg0.win (0 : Fin 3)).blk t).view.read (Elt F) ((s₀ m ρ).mem ((cfg0.win (0 : Fin 3)).arr.view.loc (c : Thread nD τ))) = Aat m c := by
  rw [fin_N0 t]
  funext j
  refine congrArg (Aat m c) (funext fun a => Fin.ext ?_)
  show ((win0_0.rect t0_0).emb j a : ℕ) = _
  rw [Window.rect_emb_val_of_index_zero _ _ _ (by fin_cases a <;> rfl)]
theorem blk_arg1 (c : Dev nD) (t : Fin cfg0.N) : ((cfg0.win (1 : Fin 3)).blk t).view.read (Elt F) ((s₀ m ρ).mem ((cfg0.win (1 : Fin 3)).arr.view.loc (c : Thread nD τ))) = Bat m c := by
  rw [fin_N0 t]
  funext j
  refine congrArg (Bat m c) (funext fun a => Fin.ext ?_)
  show ((win0_1.rect t0_0).emb j a : ℕ) = _
  rw [Window.rect_emb_val_of_index_zero _ _ _ (by fin_cases a <;> rfl)]

/-- The staging buffers hold the arguments when the body starts. -/
theorem before_0 (c : Dev nD) (t : Fin cfg0.N) (d) : (dats m ρ 0 c).before (0 : Fin 3) t d = Aat m c := by
  unfold Dat.before; rw [if_pos (fetch0_0 t)]; exact blk_arg0 m ρ c t
theorem before_1 (c : Dev nD) (t : Fin cfg0.N) (d) : (dats m ρ 0 c).before (1 : Fin 3) t d = Bat m c := by
  unfold Dat.before; rw [if_pos (fetch0_1 t)]; exact blk_arg1 m ρ c t

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop((start m c ∗ scratch c) ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop((zeros c ∗ scratch c) ∗ (dats m ρ 0 c).owesAt () t0_0.succ ∗ stg c cc0_stg0_0 (Aat m c) ∗ stg c cc0_stg1_0 (Bat m c) ∗ stg c cc0_stg2_0 (result m))

set_option maxRecDepth 4000 in
theorem sound_body (c : Dev nD) :
    bodyPre m ρ c ⊢ wp frame (wpE (defs₀ (F := F)) 𝒱₀ (c : Thread nD τ) none) Set.univ
      (cc0_body (F := F) aM aW bM bW oM oW gM gW r1M r1W r2M r2W cc0_scratch3 cc0_scratch4) (fun _ => bodyPost m ρ c) := by
  rw [body_eq]
  simp only [Prog.lift, Prog.bind_op, Prog.bind_ret, wp_deviceId]
  unfold bodyPre start scratch
  simp only [before_0, before_1]
  iintro ⟨⟨⟨%K, #HR, Hlin⟩, Hg, Hr1, Hr2⟩, Ho, ⟨%d0, %g0, %hg0, Ha⟩, ⟨%d1, %g1, %hg1, Hb⟩, ⟨%d2, %g2, %hg2, Hout⟩⟩
  subst hg0
  subst hg1
  unfold Dat.owesAt Pipeline.owesWithin
  icases Ho with ⟨%W, %hW, HO⟩
  rw [show (dats m ρ 0 c).owed t0_0.castSucc = O₀ c from rfl]
  iapply (runs_prog (Aat m) (Bat m) K c (fun _ => bodyPost m ρ c))
  isplitr []
  · unfold first argB
    isplitr; · iexact HR
    isplitl [Hlin]; · iexact Hlin
    isplitl [HO]; · iexists W; iexact HO
    isplitl [Ha]; · iexact Ha
    isplitl [Hb]; · iexact Hb
    isplitl [Hg]; · iexact Hg
    isplitl [Hr1]; · iexact Hr1
    isplitl [Hr2]; · iexact Hr2
    iexists g2; iexact Hout
  · unfold last argB Owing bodyPost scratch zeros Dat.owesAt Pipeline.owesWithin
    rw [show (dats m ρ 0 c).owed t0_0.succ = 0 from rfl]
    iintro ⟨Hz, ⟨%W', HO⟩, Ha, Hb, Hg, Hr1, Hr2, Hout⟩
    isplitl [Hz Hg Hr1 Hr2]
    · isplitl [Hz]; · iexact Hz
      isplitl [Hg]; · iexact Hg
      isplitl [Hr1]; · iexact Hr1
      iexact Hr2
    isplitl [HO]
    · iexists W'
      isplitr; · ipureintro; exact fun _ _ => Or.inl trivial
      iexact HO
    isplitl [Ha]
    · iexists _; isplitr; · (ipureintro; rfl)
      iexact Ha
    isplitl [Hb]
    · iexists _; isplitr; · (ipureintro; rfl)
      iexact Hb
    iexists _; isplitr; · (ipureintro; rfl)
    iexact Hout

set_option maxRecDepth 16384 in
/-- The body does at its one point what the proof data say. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  show bodyPre m ρ c ⊢ wp frame (wpE (defs₀ (F := F)) 𝒱₀ (c : Thread nD τ) none) Set.univ
    (cc0_body (F := F) aM aW bM bW oM oW gM gW r1M r1W r2M r2W cc0_scratch3 cc0_scratch4) (fun _ => bodyPost m ρ c)
  exact sound_body m ρ c

/-! ## The launch -/

theorem share_eq (c : Dev nD) (w : Fin cfg0.W) : (dats m ρ 0 c).share w = fullShare := by unfold Dat.share; split <;> rfl

/-- A device starts with its share of the ghost state, its credit and the levels. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Aat m) (Bat m) c)
      ⊢ |={Set.univ}=> iprop(start m c ∗ emp) := by
  iintro ⟨-, Hlev, Hcr, -, HG⟩
  ihave Hc := (creds (F := F) c) $$ Hcr
  icases Hc with ⟨HcB, HcR⟩
  unfold G' marks dealt
  icases HG with ⟨%K, ⟨HI, Hr⟩, HaB, Ht0, Ht1, Hh⟩
  imodintro
  isplitl
  · unfold start records linear
    iexists K
    isplitl [HI Hr Hlev]
    · isplitl [HI]; · iexact HI
      isplitl [Hr]; · iexact Hr
      iexact Hlev
    isplitl [HaB]; · iexact HaB
    isplitl [Ht0]; · iexact Ht0
    isplitl [Ht1]; · iexact Ht1
    isplitl [HcB]; · iexact HcB
    have h : iprop((bigSep Finset.univ fun p : Xfer => held c p) ∗ bigSep Finset.univ fun p : Xfer => cred (tallyAt (rcell c p) () (N p.1)))
        ⊢ (bigSep Finset.univ fun p : Xfer => toks c p : sProp 𝕄) := by
      rw [← bigSep_sep']
      refine bigSep_mono fun p _ => ?_
      have h' : iprop(held c p ∗ cred (tallyAt (rcell c p) () (N p.1))) ⊢ (toks c p : sProp 𝕄) := by
        unfold held toks
        iintro ⟨⟨H1, H2, H3, H4⟩, H5⟩
        iframe
      exact h'
    iapply h
    isplitl [Hh]; · iexact Hh
    iexact HcR
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scopedRest0_eq]
  unfold scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros c ∗ scratch c) from rfl, scopedRest0_eq, ownSems0_eq, unscopedSems0_eq]
  unfold zeros scratch
  iintro ⟨⟨HB, Hx⟩, Hr⟩
  isplitl [HB]; · iexact HB
  isplitl [Hx]; · iexact Hx
  iexact Hr

/-- The staging semaphores are at level 0. -/
theorem stage_lv (c : Dev nD) (w : Fin cfg0.W) (s : Fin (cfg0.win w).nbuf) (u : Unit) : lv ((c : Thread nD τ), .dma ((cfg0.win w).sem s)) u = 0 := by
  have h : ∀ k : Key, (SemLoc.dma ((cfg0.win w).sem s) : SemLoc sig) ≠ osem k := by
    revert w s; decide +kernel
  unfold lv
  rw [if_neg (fun h => by cases h), show keyOf (.dma ((cfg0.win w).sem s)) = none from dif_neg fun ⟨k, hk⟩ => h k hk]

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_lv c w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

set_option maxRecDepth 8000 in
theorem run_arrays : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Aat m) (Bat m)) (G' := G' (Aat m) (Bat m)) (u₀ := u₀)
    (hu₀ := by
      unfold u₀
      iintro Hu
      ihave H := (ownU_pair _ _) $$ Hu
      icases H with ⟨HP, HX⟩
      imod (fund (Aat m) (Bat m)) $$ HX with HG
      imodintro
      isplitl [HP] <;> iassumption)
    (hglob := glob (Aat m) (Bat m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays hold what they held, -/
theorem final_arg0 (c : Dev nD) : finalA m ρ c (0 : Fin 3) = m ((c : Thread nD τ).loc main_arg0) :=
  (dats (F := F) m ρ 0 c).arrAt_in (0 : Fin 3) rfl _
theorem final_arg1 (c : Dev nD) : finalA m ρ c (1 : Fin 3) = m ((c : Thread nD τ).loc main_arg1) :=
  (dats (F := F) m ρ 0 c).arrAt_in (1 : Fin 3) rfl _
/-- and the result array the reduced product. -/
theorem final_out (c : Dev nD) : finalA m ρ c (2 : Fin 3) = result m :=
  (dats (F := F) m ρ 0 c).arrAt_eq_of_after_last (2 : Fin 3) t0_0 (by decide +kernel) (result m) (fun j => rfl)

/-- Every fair execution terminates, with the arguments unchanged, the reduced product on every device and every counter at zero. -/
theorem run_main : θ_run defs (onTc (τ := τ) (main (F := F))) ⟨m, fun _ => 0, ρ⟩
    (fun r => (∀ c : Dev nD, r.2.mem ((c.tc : Thread nD τ).loc main_v1) = result m
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun _ h => ⟨fun c => ⟨(h.1 c (2 : Fin 3)).trans (final_out m ρ c), (h.1 c (0 : Fin 3)).trans (final_arg0 m ρ c),
    (h.1 c (1 : Fin 3)).trans (final_arg1 m ρ c)⟩, h.2⟩) (run_arrays m ρ)

end Cert.AllReduce

end
-- ==== Proof.Value.lean ====
/-
# The value over the extended reals

A device's own product is the sum over the 384 contracted positions that it holds; the result adds the four devices'
products, in an order that depends on the element; the reference adds all 1536 positions. Addition on the extended
reals is commutative and associative, so the two agree with no hypothesis on the inputs.
-/
module

public import proofs.«01_k».proof.Proof.Contents
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.AllReduce

open Cert.KernelIdeal Cert.KernelIdeal.Gen
open Idealize.ShloMosaic Idealize.SL.Sem Idealize.ShloMosaic.ValueIdx Idealize.ShloMosaic.Pipeline
open scoped BigOperators

variable (A : Dev nD → Vec Ideal S768x384 .bf16) (B : Dev nD → Vec Ideal S384x768 .bf16)

/-- An element's column is its chunk's first column and its place in the chunk. -/
theorem col_inChunk (x : S768x768.Idx) : col (chunk x) + (x 1).val % 128 = (x 1).val := by
  have h := (mem_reg.mp (mem_chunk x)).2
  have hc := (chunk_num (chunk x)).2
  omega

/-- A chunk's columns of a device's block, read at an element of the result's column. -/
theorem cols_inChunk (b : Vec Ideal S384x768 .bf16) (x : S768x768.Idx) (k : Fin 384) :
    cols b (chunk x) (ix2 k (inChunk x 1)) = b (ix2 k (x 1)) := by
  unfold cols
  congr 1
  funext a
  match a with
  | ⟨0, _⟩ =>
    apply Fin.ext
    rw [emb_val]
    exact Nat.zero_add _
  | ⟨1, _⟩ =>
    apply Fin.ext
    rw [emb_val]
    exact col_inChunk x

/-- A device's own product, at an element: the sum over the positions it holds. -/
theorem own_apply (c : Dev nD) (x : S768x768.Idx) : own A B c x = ∑ k : Fin 384, A c (ix2 (x 0) k) * B c (ix2 k (x 1)) := by
  unfold own k0_pay2 k0_pay1
  simp only [shapeCast_self]
  have e : inChunk x = ix2 (x 0) (inChunk x 1) := eq_ix2 (inChunk x)
  rw [e]
  refine (Ideal.matmul_plain_apply (φ₁ := .bf16) (φ₂ := .bf16) none (A c) (cols (B c) (chunk x))
    (constant S768x128 .f32 0x00000000#32) (x 0) (inChunk x 1)).trans ?_
  show Ideal.ofBits .f32 0x00000000#32 + _ = _
  rw [Ideal.ofBits_zero_f32, zero_add]
  exact Finset.sum_congr rfl fun k _ => congrArg (A c (ix2 (x 0) k) * ·) (cols_inChunk (B c) x k)

/-- A device, its two partners and its second partner's first partner are all the devices, once each. -/
theorem four : ∀ (i : Fin 6) (c : Dev nD),
    (Finset.univ : Finset (Dev nD)).val = {c, tgt 0 i c, tgt 1 i c, tgt 0 i (tgt 1 i c)} := by decide +kernel

/-- The result, at an element: the four devices' products, added. -/
theorem out_apply (x : S768x768.Idx) : out A B x = ∑ c : Dev nD, own A B c x := by
  have h := four (chunk x) (owner (chunk x) ⟨(x 0).val / 192, quarter_lt x⟩)
  unfold out sum2 sum1
  rw [Finset.sum, h]
  simp only [Multiset.insert_eq_cons, Multiset.map_cons, Multiset.sum_cons, Multiset.map_singleton, Multiset.sum_singleton]
  exact add_assoc (G := EReal) _ _ _

/-- The 1536 contracted positions, device by device. -/
theorem sum_devices (f : Fin 1536 → EReal) :
    ∑ k, f k = ∑ c : Dev nD, ∑ k : Fin 384, f ⟨c.val * 384 + k.val, by have := c.isLt; have := k.isLt; simp only [nD] at *; omega⟩ := by
  rw [← Equiv.sum_comp (finProdFinEquiv (m := 4) (n := 384)) f, Fintype.sum_prod_type]
  refine Finset.sum_congr rfl fun c _ => Finset.sum_congr rfl fun k _ => congrArg f (Fin.ext ?_)
  show k.val + 384 * c.val = c.val * 384 + k.val
  omega

/-- The reference's term of the whole arrays. -/
abbrev product (a : Vec Ideal Cert.ReferenceIdeal.S768x1536 .bf16) (b : Vec Ideal Cert.ReferenceIdeal.S1536x768 .bf16) : Vec Ideal S768x768 .bf16 :=
  truncf (F := Ideal) .bf16 (Host.dotGeneral (φ₁ := .bf16) (φ₂ := .bf16) Cert.ReferenceIdeal.dot_S768x1536_S1536x768_S768x768_1_0_0_1_n_n none a b) Cert.ReferenceIdeal.Gen.bitsLt_bf16_f32

/-- The reference, at an element: the sum over all the positions. -/
theorem product_apply (a : Vec Ideal Cert.ReferenceIdeal.S768x1536 .bf16) (b : Vec Ideal Cert.ReferenceIdeal.S1536x768 .bf16) (x : S768x768.Idx) :
    product a b x = ∑ k : Fin 1536, a (ix2 (x 0) k) * b (ix2 k (x 1)) := by
  have e : x = ix2 (x 0) (x 1) := idx_ext rfl rfl
  conv_lhs => rw [e]
  exact StackMember.dotGeneral_plain_apply (φ₁ := .bf16) (φ₂ := .bf16) none a b (x 0) (x 1)

/-- Where each device holds its blocks of the whole arrays, the result is the reference's. -/
theorem out_eq (a : Vec Ideal Cert.ReferenceIdeal.S768x1536 .bf16) (b : Vec Ideal Cert.ReferenceIdeal.S1536x768 .bf16)
    (hA : ∀ c, A c = Layout.block ⟨2, ![768, 384]⟩ ⟨2, ![768, 1536]⟩ 1 4 c a)
    (hB : ∀ c, B c = Layout.block ⟨2, ![384, 768]⟩ ⟨2, ![1536, 768]⟩ 0 4 c b) : out A B = product a b := by
  funext x
  rw [out_apply, product_apply, sum_devices]
  refine Finset.sum_congr rfl fun c _ => ?_
  rw [own_apply]
  refine Finset.sum_congr rfl fun k _ => ?_
  rw [hA c, hB c, Layout.block_apply, Layout.block_apply]
  congr 2
  · funext i
    match i with
    | ⟨0, _⟩ => rfl
    | ⟨1, _⟩ => rfl
  · funext i
    match i with
    | ⟨0, _⟩ => rfl
    | ⟨1, _⟩ => rfl

end Cert.AllReduce

end
-- ==== Proof.Texts.lean ====
/-
# One text

The program printed for bit patterns and the program printed for the extended reals have the same text; so their
label tables agree, and a run of one is a run of the other.
-/
module

public import proofs.«01_k».proof.Kernel
public import proofs.«01_k».proof.Proof.Gen.Kernel
public import proofs.«01_k».proof.KernelIdeal
public import proofs.«01_k».proof.Proof.Gen.KernelIdeal

@[expose] public section

noncomputable section

namespace Cert.AllReduce

open Idealize.ShloMosaic Idealize.SL.Sem

variable {F : FTy → Type} [FloatOps F]

/-- The kernel's body is the same in the two programs, -/
theorem defs₀_eq : Cert.Kernel.defs₀ (F := F) = Cert.KernelIdeal.defs₀ (F := F) := by
  refine congrArg Defs.onTc ?_
  funext l x
  match l, x with
  | ⟨0, _⟩, (_, _) => rfl

/-- and so is the table of everything they call. -/
theorem defs_eq : Cert.Kernel.defs (F := F) = Cert.KernelIdeal.defs (F := F) :=
  congrArg (Pipeline.defs (Cert.KernelIdeal.pcfgs (F := F))) defs₀_eq

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Texts
public import Idealize.ShloMosaic.Adequacy
public import Idealize.ShloMosaic.Lib.Quiescent
public import Idealize.ShloMosaic.Init

@[expose] public section

noncomputable section

namespace Cert.Proof

open Idealize.ShloMosaic Idealize.SL.Sem
open Cert.AllReduce (run_main out_eq product defs_eq)

/-- The kernel over the extended reals terminates, leaves its arguments unchanged and every counter at zero. -/
theorem frame_ideal : Cert.quiescent_KernelIdeal := fun m ρ _ =>
  (θ_run Cert.KernelIdeal.defs _ _).mono (fun _ h => ⟨fun c => (h.1 c).2, h.2⟩) (run_main (F := Ideal) m ρ)

/-- So does the kernel on bit patterns: it has the same text, and the run is stated over any float values. -/
theorem frame_kernel : Cert.quiescent_Kernel := by
  intro m ρ _
  rw [show Cert.Kernel.defs (F := Bits) = Cert.KernelIdeal.defs (F := Bits) from defs_eq]
  exact (θ_run Cert.KernelIdeal.defs _ _).mono (fun _ h => ⟨fun c => (h.1 c).2, h.2⟩) (run_main (F := Bits) m ρ)

/-- And the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, every device's result is the reference's product of the whole arrays. -/
theorem algebraic : Cert.algebraic_KernelIdeal_ReferenceIdeal := by
  intro m ρ m' ρ' _ hb
  refine ⟨product (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨(h.1 c).1.trans (out_eq _ _ _ _ (fun d => (hb d).1) (fun d => (hb d).2)), (h.1 c).2⟩) (run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, algebraic⟩

end Cert.Proof

end
